-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_joints [hPre_finite_joints : Cert.Pre_finite_joints.Facts] (m : (ℓ : Loc Cert.KernelIdeal.nD Cert.KernelIdeal.τ Cert.KernelIdeal.sig) → Buf (Elt Ideal) ℓ) : Prop :=
  ∀ c : Dev Cert.KernelIdeal.nD,
    (Cert.Pre_finite_joints.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_joints [hPre_finite_joints : Cert.Pre_finite_joints.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_joints.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_joints [hKernelIdeal : Cert.KernelIdeal.Facts] [hPre_finite_joints : Cert.Pre_finite_joints.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_joints m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_joints [hReferenceIdeal : Cert.ReferenceIdeal.Facts] [hPre_finite_joints : Cert.Pre_finite_joints.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_joints m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "inv33" .f32 0x3CF83E10#32 ((33⁻¹ : ℝ) : EReal)
  ∧ IdealRules.named_const.Statement Cert.KernelIdeal.κ "inv21" .f32 0x3D430C31#32 ((21⁻¹ : ℝ) : EReal)

def algebraic_KernelIdeal_ReferenceIdeal_pre_finite_joints [hKernelIdeal : Cert.KernelIdeal.Facts] [hReferenceIdeal : Cert.ReferenceIdeal.Facts] [hPre_finite_joints : Cert.Pre_finite_joints.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_joints m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_v217) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_joints : Cert.Pre_finite_joints.Facts),
    quiescent_Kernel (hKernel := hKernel)
    ∧ quiescent_KernelIdeal (hKernelIdeal := hKernelIdeal)
    ∧ quiescent_KernelIdeal_pre_finite_joints (hKernelIdeal := hKernelIdeal) (hPre_finite_joints := hPre_finite_joints)
    ∧ quiescent_ReferenceIdeal (hReferenceIdeal := hReferenceIdeal)
    ∧ quiescent_ReferenceIdeal_pre_finite_joints (hReferenceIdeal := hReferenceIdeal) (hPre_finite_joints := hPre_finite_joints)
    ∧ preserves_Kernel_KernelIdeal
    ∧ algebraic_KernelIdeal_ReferenceIdeal_pre_finite_joints (hKernelIdeal := hKernelIdeal) (hReferenceIdeal := hReferenceIdeal) (hPre_finite_joints := hPre_finite_joints)
-- ==== Pre_finite_joints.lean ====
abbrev S64x256x33x3 : Shape := ⟨4, ![64, 256, 33, 3]⟩
abbrev S64x256x21x3 : Shape := ⟨4, ![64, 256, 21, 3]⟩
abbrev S64 : Shape := ⟨1, ![64]⟩
abbrev S33x33 : Shape := ⟨2, ![33, 33]⟩
abbrev S3x256 : Shape := ⟨2, ![3, 256]⟩
abbrev S9x256x256 : Shape := ⟨3, ![9, 256, 256]⟩
abbrev S256x256 : Shape := ⟨2, ![256, 256]⟩
abbrev S21x21 : Shape := ⟨2, ![21, 21]⟩
abbrev S_ : Shape := ⟨0, ![]⟩

class Facts : Prop where
  bcast_S_S64x256x33x3 : S_.BroadcastsInDim S64x256x33x3 (![] : Fin 0 → Fin S64x256x33x3.rank)
  reducesTo_S64x256x33x3_S_d0_1_2_3 : S64x256x33x3.ReducesTo [0, 1, 2, 3] S_
  h_S_ : 0 < S_.numel
  bcast_S_S33x33 : S_.BroadcastsInDim S33x33 (![] : Fin 0 → Fin S33x33.rank)
  reducesTo_S33x33_S_d0_1 : S33x33.ReducesTo [0, 1] S_
  bcast_S_S3x256 : S_.BroadcastsInDim S3x256 (![] : Fin 0 → Fin S3x256.rank)
  reducesTo_S3x256_S_d0_1 : S3x256.ReducesTo [0, 1] S_
  bcast_S_S64x256x21x3 : S_.BroadcastsInDim S64x256x21x3 (![] : Fin 0 → Fin S64x256x21x3.rank)
  reducesTo_S64x256x21x3_S_d0_1_2_3 : S64x256x21x3.ReducesTo [0, 1, 2, 3] S_
  bcast_S_S21x21 : S_.BroadcastsInDim S21x21 (![] : Fin 0 → Fin S21x21.rank)
  reducesTo_S21x21_S_d0_1 : S21x21.ReducesTo [0, 1] S_

variable [Facts]

def fn_part2 {F : FTy → Type} [FloatOps F] (main_arg12 : FVec F S21x21 .f32) (main_arg13 : FVec F S3x256 .f32) (main_v33 : IVec S_ 1) : IVec S_ 1 :=
  let main_v34 : FVec F S21x21 .f32 := Host.absf main_arg12
  let main_cst_12 : FVec F S_ .f32 := constant S_ .f32 0x7F800000#32
  let main_v35 : FVec F S21x21 .f32 := broadcastInDim S21x21 ![] bcast_S_S21x21 main_cst_12
  let main_v36 : IVec S21x21 1 := cmpf .olt main_v34 main_v35
  let main_c_13 : IVec S_ 1 := constantI S_ 1 1#1
  let main_v37 : IVec S_ 1 := (fun x v => Host.reduce IntOp.andi x v reducesTo_S21x21_S_d0_1 h_S_) main_v36 main_c_13
  let main_v38 : IVec S_ 1 := andi main_v33 main_v37
  let main_v39 : FVec F S3x256 .f32 := Host.absf main_arg13
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  main_v43

def fn_part1 {F : FTy → Type} [FloatOps F] (main_arg2 : FVec F S64x256x21x3 .f32) (main_arg8 : FVec F S21x21 .f32) (main_arg9 : FVec F S3x256 .f32) (main_arg12 : FVec F S21x21 .f32) (main_arg13 : FVec F S3x256 .f32) (main_v13 : IVec S_ 1) (main_v16 : IVec S64x256x21x3 1) : IVec S_ 1 :=
  let main_c_5 : IVec S_ 1 := constantI S_ 1 1#1
  let main_v17 : IVec S_ 1 := (fun x v => Host.reduce IntOp.andi x v reducesTo_S64x256x21x3_S_d0_1_2_3 h_S_) main_v16 main_c_5
  let main_v18 : IVec S_ 1 := andi main_v13 main_v17
  let main_v19 : FVec F S21x21 .f32 := Host.absf main_arg8
  let main_cst_6 : FVec F S_ .f32 := constant S_ .f32 0x7F800000#32
  let main_v20 : FVec F S21x21 .f32 := broadcastInDim S21x21 ![] bcast_S_S21x21 main_cst_6
  let main_v21 : IVec S21x21 1 := cmpf .olt main_v19 main_v20
  let main_c_7 : IVec S_ 1 := constantI S_ 1 1#1
  let main_v22 : IVec S_ 1 := (fun x v => Host.reduce IntOp.andi x v reducesTo_S21x21_S_d0_1 h_S_) main_v21 main_c_7
  let main_v23 : IVec S_ 1 := andi main_v18 main_v22
  let main_v24 : FVec F S3x256 .f32 := Host.absf main_arg9
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S64x256x21x3 .f32 := Host.absf main_arg2
  let main_cst_10 : FVec F S_ .f32 := constant S_ .f32 0x7F800000#32
  let main_v30 : FVec F S64x256x21x3 .f32 := broadcastInDim S64x256x21x3 ![] bcast_S_S64x256x21x3 main_cst_10
  let main_v31 : IVec S64x256x21x3 1 := cmpf .olt main_v29 main_v30
  let main_c_11 : IVec S_ 1 := constantI S_ 1 1#1
  let main_v32 : IVec S_ 1 := (fun x v => Host.reduce IntOp.andi x v reducesTo_S64x256x21x3_S_d0_1_2_3 h_S_) main_v31 main_c_11
  let main_v33 : IVec S_ 1 := andi main_v28 main_v32
  fn_part2 (F := F) main_arg12 main_arg13 main_v33

def fn {F : FTy → Type} [FloatOps F] (main_arg0 : FVec F S64x256x33x3 .f32) (main_arg1 : FVec F S64x256x21x3 .f32) (main_arg2 : FVec F S64x256x21x3 .f32) (main_arg3 : IVec S64 32) (main_arg4 : FVec F S33x33 .f32) (main_arg5 : FVec F S3x256 .f32) (main_arg6 : FVec F S9x256x256 .f32) (main_arg7 : FVec F S256x256 .f32) (main_arg8 : FVec F S21x21 .f32) (main_arg9 : FVec F S3x256 .f32) (main_arg10 : FVec F S9x256x256 .f32) (main_arg11 : FVec F S256x256 .f32) (main_arg12 : FVec F S21x21 .f32) (main_arg13 : FVec F S3x256 .f32) (main_arg14 : FVec F S9x256x256 .f32) (main_arg15 : FVec F S256x256 .f32) : IVec S_ 1 :=
  let main_v0 : FVec F S64x256x33x3 .f32 := Host.absf main_arg0
  let main_cst : FVec F S_ .f32 := constant S_ .f32 0x7F800000#32
  let main_v1 : FVec F S64x256x33x3 .f32 := broadcastInDim S64x256x33x3 ![] bcast_S_S64x256x33x3 main_cst
  let main_v2 : IVec S64x256x33x3 1 := cmpf .olt main_v0 main_v1
  let main_c : IVec S_ 1 := constantI S_ 1 1#1
  let main_v3 : IVec S_ 1 := (fun x v => Host.reduce IntOp.andi x v reducesTo_S64x256x33x3_S_d0_1_2_3 h_S_) main_v2 main_c
  let main_v4 : FVec F S33x33 .f32 := Host.absf main_arg4
  let main_cst_0 : FVec F S_ .f32 := constant S_ .f32 0x7F800000#32
  let main_v5 : FVec F S33x33 .f32 := broadcastInDim S33x33 ![] bcast_S_S33x33 main_cst_0
  let main_v6 : IVec S33x33 1 := cmpf .olt main_v4 main_v5
  let main_c_1 : IVec S_ 1 := constantI S_ 1 1#1
  let main_v7 : IVec S_ 1 := (fun x v => Host.reduce IntOp.andi x v reducesTo_S33x33_S_d0_1 h_S_) main_v6 main_c_1
  let main_v8 : IVec S_ 1 := andi main_v3 main_v7
  let main_v9 : FVec F S3x256 .f32 := Host.absf main_arg5
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S64x256x21x3 .f32 := Host.absf main_arg1
  let main_cst_4 : FVec F S_ .f32 := constant S_ .f32 0x7F800000#32
  let main_v15 : FVec F S64x256x21x3 .f32 := broadcastInDim S64x256x21x3 ![] bcast_S_S64x256x21x3 main_cst_4
  let main_v16 : IVec S64x256x21x3 1 := cmpf .olt main_v14 main_v15
  fn_part1 (F := F) main_arg2 main_arg8 main_arg9 main_arg12 main_arg13 main_v13 main_v16
-- ==== Kernel.lean ====
abbrev S64x256x33x3 : Shape := ⟨4, ![64, 256, 33, 3]⟩
abbrev S64x256x21x3 : Shape := ⟨4, ![64, 256, 21, 3]⟩
abbrev S64 : Shape := ⟨1, ![64]⟩
abbrev S33x33 : Shape := ⟨2, ![33, 33]⟩
abbrev S3x256 : Shape := ⟨2, ![3, 256]⟩
abbrev S9x256x256 : Shape := ⟨3, ![9, 256, 256]⟩
abbrev S256x256 : Shape := ⟨2, ![256, 256]⟩
abbrev S21x21 : Shape := ⟨2, ![21, 21]⟩
abbrev S_ : Shape := ⟨0, ![]⟩
abbrev S33 : Shape := ⟨1, ![33]⟩
abbrev S33x1 : Shape := ⟨2, ![33, 1]⟩
abbrev S64x3x256x33 : Shape := ⟨4, ![64, 3, 256, 33]⟩
abbrev S64x256x256 : Shape := ⟨3, ![64, 256, 256]⟩
abbrev S64x1x256 : Shape := ⟨3, ![64, 1, 256]⟩
abbrev S1x3x256x33 : Shape := ⟨4, ![1, 3, 256, 33]⟩
abbrev S1x256x256 : Shape := ⟨3, ![1, 256, 256]⟩
abbrev S1x1x256 : Shape := ⟨3, ![1, 1, 256]⟩
abbrev S33x264x256 : Shape := ⟨3, ![33, 264, 256]⟩
abbrev S33x256x256 : Shape := ⟨3, ![33, 256, 256]⟩
abbrev S1x1x256x33 : Shape := ⟨4, ![1, 1, 256, 33]⟩
abbrev S256x33 : Shape := ⟨2, ![256, 33]⟩
abbrev S33x4x256 : Shape := ⟨3, ![33, 4, 256]⟩
abbrev S256x1 : Shape := ⟨2, ![256, 1]⟩
abbrev S1x256 : Shape := ⟨2, ![1, 256]⟩
abbrev S8448x256 : Shape := ⟨2, ![8448, 256]⟩
abbrev S1x1 : Shape := ⟨2, ![1, 1]⟩
abbrev S1 : Shape := ⟨1, ![1]⟩
abbrev S256 : Shape := ⟨1, ![256]⟩
abbrev S64x256 : Shape := ⟨2, ![64, 256]⟩
abbrev S21 : Shape := ⟨1, ![21]⟩
abbrev S21x1 : Shape := ⟨2, ![21, 1]⟩
abbrev S64x3x256x21 : Shape := ⟨4, ![64, 3, 256, 21]⟩
abbrev S1x3x256x21 : Shape := ⟨4, ![1, 3, 256, 21]⟩
abbrev S21x264x256 : Shape := ⟨3, ![21, 264, 256]⟩
abbrev S21x256x256 : Shape := ⟨3, ![21, 256, 256]⟩
abbrev S1x1x256x21 : Shape := ⟨4, ![1, 1, 256, 21]⟩
abbrev S256x21 : Shape := ⟨2, ![256, 21]⟩
abbrev S21x4x256 : Shape := ⟨3, ![21, 4, 256]⟩
abbrev S5376x256 : Shape := ⟨2, ![5376, 256]⟩
abbrev S64x256x768 : Shape := ⟨3, ![64, 256, 768]⟩
abbrev S64x768 : Shape := ⟨2, ![64, 768]⟩

abbrev nBuf : Space → Nat
  | .hbm => 90
  | .vmem => 39
  | .smem => 6
  | _ => 0

abbrev bufTy : (tb : Table) → Fin (tcTables nBuf tb) → BufTy
  | .hbm, ⟨0, _⟩ => ⟨S64x256x33x3, .f32⟩
  | .hbm, ⟨1, _⟩ => ⟨S64x256x21x3, .f32⟩
  | .hbm, ⟨2, _⟩ => ⟨S64x256x21x3, .f32⟩
  | .hbm, ⟨3, _⟩ => ⟨S64, .i32⟩
  | .hbm, ⟨4, _⟩ => ⟨S33x33, .f32⟩
  | .hbm, ⟨5, _⟩ => ⟨S3x256, .f32⟩
  | .hbm, ⟨6, _⟩ => ⟨S9x256x256, .f32⟩
  | .hbm, ⟨7, _⟩ => ⟨S256x256, .f32⟩
  | .hbm, ⟨8, _⟩ => ⟨S21x21, .f32⟩
  | .hbm, ⟨9, _⟩ => ⟨S3x256, .f32⟩
  | .hbm, ⟨10, _⟩ => ⟨S9x256x256, .f32⟩
  | .hbm, ⟨11, _⟩ => ⟨S256x256, .f32⟩
  | .hbm, ⟨12, _⟩ => ⟨S21x21, .f32⟩
  | .hbm, ⟨13, _⟩ => ⟨S3x256, .f32⟩
  | .hbm, ⟨14, _⟩ => ⟨S9x256x256, .f32⟩
  | .hbm, ⟨15, _⟩ => ⟨S256x256, .f32⟩
  | .hbm, ⟨16, _⟩ => ⟨S33x33, .i32⟩
  | .hbm, ⟨17, _⟩ => ⟨S33x33, .i32⟩
  | .hbm, ⟨18, _⟩ => ⟨S_, .i32⟩
  | .hbm, ⟨19, _⟩ => ⟨S33x33, .i32⟩
  | .hbm, ⟨20, _⟩ => ⟨S33x33, .i32⟩
  | .hbm, ⟨21, _⟩ => ⟨S33x33, .i1⟩
  | .hbm, ⟨22, _⟩ => ⟨S33x33, .f32⟩
  | .hbm, ⟨23, _⟩ => ⟨S33x33, .f32⟩
  | .hbm, ⟨24, _⟩ => ⟨S_, .f32⟩
  | .hbm, ⟨25, _⟩ => ⟨S33, .f32⟩
  | .hbm, ⟨26, _⟩ => ⟨S_, .f32⟩
  | .hbm, ⟨27, _⟩ => ⟨S_, .f32⟩
  | .hbm, ⟨28, _⟩ => ⟨S33, .f32⟩
  | .hbm, ⟨29, _⟩ => ⟨S33, .f32⟩
  | .hbm, ⟨30, _⟩ => ⟨S33x1, .f32⟩
  | .hbm, ⟨31, _⟩ => ⟨S33x33, .f32⟩
  | .hbm, ⟨32, _⟩ => ⟨S33x33, .f32⟩
  | .hbm, ⟨33, _⟩ => ⟨S64x3x256x33, .f32⟩
  | .hbm, ⟨34, _⟩ => ⟨S33x33, .f32⟩
  | .hbm, ⟨35, _⟩ => ⟨S9x256x256, .bf16⟩
  | .hbm, ⟨36, _⟩ => ⟨S256x256, .bf16⟩
  | .hbm, ⟨37, _⟩ => ⟨S64x256x256, .f32⟩
  | .hbm, ⟨38, _⟩ => ⟨S64x1x256, .f32⟩
  | .hbm, ⟨39, _⟩ => ⟨S64x256, .f32⟩
  | .hbm, ⟨40, _⟩ => ⟨S21x21, .i32⟩
  | .hbm, ⟨41, _⟩ => ⟨S21x21, .i32⟩
  | .hbm, ⟨42, _⟩ => ⟨S_, .i32⟩
  | .hbm, ⟨43, _⟩ => ⟨S21x21, .i32⟩
  | .hbm, ⟨44, _⟩ => ⟨S21x21, .i32⟩
  | .hbm, ⟨45, _⟩ => ⟨S21x21, .i1⟩
  | .hbm, ⟨46, _⟩ => ⟨S21x21, .f32⟩
  | .hbm, ⟨47, _⟩ => ⟨S21x21, .f32⟩
  | .hbm, ⟨48, _⟩ => ⟨S_, .f32⟩
  | .hbm, ⟨49, _⟩ => ⟨S21, .f32⟩
  | .hbm, ⟨50, _⟩ => ⟨S_, .f32⟩
  | .hbm, ⟨51, _⟩ => ⟨S_, .f32⟩
  | .hbm, ⟨52, _⟩ => ⟨S21, .f32⟩
  | .hbm, ⟨53, _⟩ => ⟨S21, .f32⟩
  | .hbm, ⟨54, _⟩ => ⟨S21x1, .f32⟩
  | .hbm, ⟨55, _⟩ => ⟨S21x21, .f32⟩
  | .hbm, ⟨56, _⟩ => ⟨S21x21, .f32⟩
  | .hbm, ⟨57, _⟩ => ⟨S64x3x256x21, .f32⟩
  | .hbm, ⟨58, _⟩ => ⟨S21x21, .f32⟩
  | .hbm, ⟨59, _⟩ => ⟨S9x256x256, .bf16⟩
  | .hbm, ⟨60, _⟩ => ⟨S256x256, .bf16⟩
  | .hbm, ⟨61, _⟩ => ⟨S64x256x256, .f32⟩
  | .hbm, ⟨62, _⟩ => ⟨S64x1x256, .f32⟩
  | .hbm, ⟨63, _⟩ => ⟨S64x256, .f32⟩
  | .hbm, ⟨64, _⟩ => ⟨S21x21, .i32⟩
  | .hbm, ⟨65, _⟩ => ⟨S21x21, .i32⟩
  | .hbm, ⟨66, _⟩ => ⟨S_, .i32⟩
  | .hbm, ⟨67, _⟩ => ⟨S21x21, .i32⟩
  | .hbm, ⟨68, _⟩ => ⟨S21x21, .i32⟩
  | .hbm, ⟨69, _⟩ => ⟨S21x21, .i1⟩
  | .hbm, ⟨70, _⟩ => ⟨S21x21, .f32⟩
  | .hbm, ⟨71, _⟩ => ⟨S21x21, .f32⟩
  | .hbm, ⟨72, _⟩ => ⟨S_, .f32⟩
  | .hbm, ⟨73, _⟩ => ⟨S21, .f32⟩
  | .hbm, ⟨74, _⟩ => ⟨S_, .f32⟩
  | .hbm, ⟨75, _⟩ => ⟨S_, .f32⟩
  | .hbm, ⟨76, _⟩ => ⟨S21, .f32⟩
  | .hbm, ⟨77, _⟩ => ⟨S21, .f32⟩
  | .hbm, ⟨78, _⟩ => ⟨S21x1, .f32⟩
  | .hbm, ⟨79, _⟩ => ⟨S21x21, .f32⟩
  | .hbm, ⟨80, _⟩ => ⟨S21x21, .f32⟩
  | .hbm, ⟨81, _⟩ => ⟨S64x3x256x21, .f32⟩
  | .hbm, ⟨82, _⟩ => ⟨S21x21, .f32⟩
  | .hbm, ⟨83, _⟩ => ⟨S9x256x256, .bf16⟩
  | .hbm, ⟨84, _⟩ => ⟨S256x256, .bf16⟩
  | .hbm, ⟨85, _⟩ => ⟨S64x256x256, .f32⟩
  | .hbm, ⟨86, _⟩ => ⟨S64x1x256, .f32⟩
  | .hbm, ⟨87, _⟩ => ⟨S64x256, .f32⟩
  | .hbm, ⟨88, _⟩ => ⟨S64x256x768, .f32⟩
  | .hbm, ⟨89, _⟩ => ⟨S64x768, .f32⟩
  | .local _ .vmem, ⟨0, _⟩ => ⟨S1x3x256x33, .f32⟩
  | .local _ .vmem, ⟨1, _⟩ => ⟨S1x3x256x33, .f32⟩
  | .local _ .vmem, ⟨2, _⟩ => ⟨S33x33, .f32⟩
  | .local _ .vmem, ⟨3, _⟩ => ⟨S3x256, .f32⟩
  | .local _ .vmem, ⟨4, _⟩ => ⟨S9x256x256, .bf16⟩
  | .local _ .vmem, ⟨5, _⟩ => ⟨S256x256, .bf16⟩
  | .local _ .vmem, ⟨6, _⟩ => ⟨S1x256x256, .f32⟩
  | .local _ .vmem, ⟨7, _⟩ => ⟨S1x256x256, .f32⟩
  | .local _ .vmem, ⟨8, _⟩ => ⟨S1x1x256, .f32⟩
  | .local _ .vmem, ⟨9, _⟩ => ⟨S1x1x256, .f32⟩
  | .local _ .vmem, ⟨10, _⟩ => ⟨S33x264x256, .bf16⟩
  | .local _ .vmem, ⟨11, _⟩ => ⟨S33x256x256, .f32⟩
  | .local _ .vmem, ⟨12, _⟩ => ⟨S256x256, .f32⟩
  | .local _ .vmem, ⟨13, _⟩ => ⟨S1x3x256x21, .f32⟩
  | .local _ .vmem, ⟨14, _⟩ => ⟨S1x3x256x21, .f32⟩
  | .local _ .vmem, ⟨15, _⟩ => ⟨S21x21, .f32⟩
  | .local _ .vmem, ⟨16, _⟩ => ⟨S3x256, .f32⟩
  | .local _ .vmem, ⟨17, _⟩ => ⟨S9x256x256, .bf16⟩
  | .local _ .vmem, ⟨18, _⟩ => ⟨S256x256, .bf16⟩
  | .local _ .vmem, ⟨19, _⟩ => ⟨S1x256x256, .f32⟩
  | .local _ .vmem, ⟨20, _⟩ => ⟨S1x256x256, .f32⟩
  | .local _ .vmem, ⟨21, _⟩ => ⟨S1x1x256, .f32⟩
  | .local _ .vmem, ⟨22, _⟩ => ⟨S1x1x256, .f32⟩
  | .local _ .vmem, ⟨23, _⟩ => ⟨S21x264x256, .bf16⟩
  | .local _ .vmem, ⟨24, _⟩ => ⟨S21x256x256, .f32⟩
  | .local _ .vmem, ⟨25, _⟩ => ⟨S256x256, .f32⟩
  | .local _ .vmem, ⟨26, _⟩ => ⟨S1x3x256x21, .f32⟩
  | .local _ .vmem, ⟨27, _⟩ => ⟨S1x3x256x21, .f32⟩
  | .local _ .vmem, ⟨28, _⟩ => ⟨S21x21, .f32⟩
  | .local _ .vmem, ⟨29, _⟩ => ⟨S3x256, .f32⟩
  | .local _ .vmem, ⟨30, _⟩ => ⟨S9x256x256, .bf16⟩
  | .local _ .vmem, ⟨31, _⟩ => ⟨S256x256, .bf16⟩
  | .local _ .vmem, ⟨32, _⟩ => ⟨S1x256x256, .f32⟩
  | .local _ .vmem, ⟨33, _⟩ => ⟨S1x256x256, .f32⟩
  | .local _ .vmem, ⟨34, _⟩ => ⟨S1x1x256, .f32⟩
  | .local _ .vmem, ⟨35, _⟩ => ⟨S1x1x256, .f32⟩
  | .local _ .vmem, ⟨36, _⟩ => ⟨S21x264x256, .bf16⟩
  | .local _ .vmem, ⟨37, _⟩ => ⟨S21x256x256, .f32⟩
  | .local _ .vmem, ⟨38, _⟩ => ⟨S256x256, .f32⟩
  | .local _ .smem, ⟨0, _⟩ => ⟨S33x33, .f32⟩
  | .local _ .smem, ⟨1, _⟩ => ⟨S64, .i32⟩
  | .local _ .smem, ⟨2, _⟩ => ⟨S21x21, .f32⟩
  | .local _ .smem, ⟨3, _⟩ => ⟨S64, .i32⟩
  | .local _ .smem, ⟨4, _⟩ => ⟨S21x21, .f32⟩
  | .local _ .smem, ⟨5, _⟩ => ⟨S64, .i32⟩
  | _, _ => ⟨S64x256x33x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16_0 : Ref sig .tc := ⟨.hbm, 37, rfl⟩
abbrev main_v16_1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_cst_3 : Ref sig .tc := ⟨.hbm, 50, rfl⟩
abbrev main_call1_v0 : Ref sig .tc := ⟨.hbm, 51, rfl⟩
abbrev main_call1_v1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34_0 : Ref sig .tc := ⟨.hbm, 61, rfl⟩
abbrev main_v34_1 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_4 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_5 : Ref sig .tc := ⟨.hbm, 72, rfl⟩
abbrev main_v43 : Ref sig .tc := ⟨.hbm, 73, rfl⟩
abbrev main_cst_6 : Ref sig .tc := ⟨.hbm, 74, rfl⟩
abbrev main_call2_v0 : Ref sig .tc := ⟨.hbm, 75, rfl⟩
abbrev main_call2_v1 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52_0 : Ref sig .tc := ⟨.hbm, 85, rfl⟩
abbrev main_v52_1 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc2_scratch0 : Ref sig .tc := ⟨.vmem, 36, rfl⟩
abbrev cc2_scratch1 : Ref sig .tc := ⟨.vmem, 37, rfl⟩
abbrev cc2_scratch2 : Ref sig .tc := ⟨.vmem, 38, rfl⟩
abbrev cc0_stg2_0 : Ref sig .tc := ⟨.smem, 0, rfl⟩
abbrev cc0_stg6_0 : Ref sig .tc := ⟨.smem, 1, rfl⟩
abbrev cc1_stg2_0 : Ref sig .tc := ⟨.smem, 2, rfl⟩
abbrev cc1_stg6_0 : Ref sig .tc := ⟨.smem, 3, rfl⟩
abbrev cc2_stg2_0 : Ref sig .tc := ⟨.smem, 4, rfl⟩
abbrev cc2_stg6_0 : Ref sig .tc := ⟨.smem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c33_i32 : BitVec 32 := 33#32
  let v895 : BitVec 32 := Scalar.addi c0_i32 c33_i32
  let c1_i32 : BitVec 32 := 1#32
  ⟨c0_i32, v895, c1_i32⟩
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let v920 : Index := Scalar.indexCast arg13
  let c0_464 : Index := 0#32
  ![v920.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let v926 : Index := Scalar.indexCast arg13
  let c1_468 : Index := 1#32
  ![v926.toNat, 1]
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let v933 : Index := Scalar.indexCast arg13
  let c2_472 : Index := 2#32
  ![v933.toNat, 2]
def k0_off4 (k0_t1 : Fin k0_t1_loop.trips) : Fin 2 → Nat :=
  let c0_i32 : BitVec 32 := 0#32
  let c1_i32 : BitVec 32 := 1#32
  let arg13 : BitVec 32 := Scf.iv c0_i32 c1_i32 k0_t1
  let v940 : Index := Scalar.indexCast arg13
  let c3_476 : Index := 3#32
  ![v940.toNat, 3]
def k0_off5 (k0_t1 : Fin k0_t1_loop.trips) : Fin 2 → Nat :=
  let c0_i32 : BitVec 32 := 0#32
  let c1_i32 : BitVec 32 := 1#32
  let arg13 : BitVec 32 := Scf.iv c0_i32 c1_i32 k0_t1
  let v947 : Index := Scalar.indexCast arg13
  let c4_480 : Index := 4#32
  ![v947.toNat, 4]
def k0_off6 (k0_t1 : Fin k0_t1_loop.trips) : Fin 2 → Nat :=
  let c0_i32 : BitVec 32 := 0#32
  let c1_i32 : BitVec 32 := 1#32
  let arg13 : BitVec 32 := Scf.iv c0_i32 c1_i32 k0_t1
  let v954 : Index := Scalar.indexCast arg13
  let c5_484 : Index := 5#32
  ![v954.toNat, 5]
def k0_off7 (k0_t1 : Fin k0_t1_loop.trips) : Fin 2 → Nat :=
  let c0_i32 : BitVec 32 := 0#32
  let c1_i32 : BitVec 32 := 1#32
  let arg13 : BitVec 32 := Scf.iv c0_i32 c1_i32 k0_t1
  let v961 : Index := Scalar.indexCast arg13
  let c6_488 : Index := 6#32
  ![v961.toNat, 6]
def k0_off8 (k0_t1 : Fin k0_t1_loop.trips) : Fin 2 → Nat :=
  let c0_i32 : BitVec 32 := 0#32
  let c1_i32 : BitVec 32 := 1#32
  let arg13 : BitVec 32 := Scf.iv c0_i32 c1_i32 k0_t1
  let v968 : Index := Scalar.indexCast arg13
  let c7_492 : Index := 7#32
  ![v968.toNat, 7]
def k0_off9 (k0_t1 : Fin k0_t1_loop.trips) : Fin 2 → Nat :=
  let c0_i32 : BitVec 32 := 0#32
  let c1_i32 : BitVec 32 := 1#32
  let arg13 : BitVec 32 := Scf.iv c0_i32 c1_i32 k0_t1
  let v975 : Index := Scalar.indexCast arg13
  let c8_496 : Index := 8#32
  ![v975.toNat, 8]
def k0_off10 (k0_t1 : Fin k0_t1_loop.trips) : Fin 2 → Nat :=
  let c0_i32 : BitVec 32 := 0#32
  let c1_i32 : BitVec 32 := 1#32
  let arg13 : BitVec 32 := Scf.iv c0_i32 c1_i32 k0_t1
  let v982 : Index := Scalar.indexCast arg13
  let c9_500 : Index := 9#32
  ![v982.toNat, 9]
def k0_off11 (k0_t1 : Fin k0_t1_loop.trips) : Fin 2 → Nat :=
  let c0_i32 : BitVec 32 := 0#32
  let c1_i32 : BitVec 32 := 1#32
  let arg13 : BitVec 32 := Scf.iv c0_i32 c1_i32 k0_t1
  let v989 : Index := Scalar.indexCast arg13
  let c10_504 : Index := 10#32
  ![v989.toNat, 10]
def k0_off12 (k0_t1 : Fin k0_t1_loop.trips) : Fin 2 → Nat :=
  let c0_i32 : BitVec 32 := 0#32
  let c1_i32 : BitVec 32 := 1#32
  let arg13 : BitVec 32 := Scf.iv c0_i32 c1_i32 k0_t1
  let v996 : Index := Scalar.indexCast arg13
  let c11_508 : Index := 11#32
  ![v996.toNat, 11]
def k0_off13 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1003 : Index := Scalar.indexCast arg13
  let c12_512 : Index := 12#32
  ![v1003.toNat, 12]
def k0_off14 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1010 : Index := Scalar.indexCast arg13
  let c13_516 : Index := 13#32
  ![v1010.toNat, 13]
def k0_off15 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1017 : Index := Scalar.indexCast arg13
  let c14_520 : Index := 14#32
  ![v1017.toNat, 14]
def k0_off16 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1024 : Index := Scalar.indexCast arg13
  let c15_524 : Index := 15#32
  ![v1024.toNat, 15]
def k0_off17 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1031 : Index := Scalar.indexCast arg13
  let c16_528 : Index := 16#32
  ![v1031.toNat, 16]
def k0_off18 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1038 : Index := Scalar.indexCast arg13
  let c17_532 : Index := 17#32
  ![v1038.toNat, 17]
def k0_off19 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1045 : Index := Scalar.indexCast arg13
  let c18_536 : Index := 18#32
  ![v1045.toNat, 18]
def k0_off20 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1052 : Index := Scalar.indexCast arg13
  let c19_540 : Index := 19#32
  ![v1052.toNat, 19]
def k0_off21 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1059 : Index := Scalar.indexCast arg13
  let c20_544 : Index := 20#32
  ![v1059.toNat, 20]
def k0_off22 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1066 : Index := Scalar.indexCast arg13
  let c21_548 : Index := 21#32
  ![v1066.toNat, 21]
def k0_off23 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1073 : Index := Scalar.indexCast arg13
  let c22_552 : Index := 22#32
  ![v1073.toNat, 22]
def k0_off24 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1080 : Index := Scalar.indexCast arg13
  let c23_556 : Index := 23#32
  ![v1080.toNat, 23]
def k0_off25 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1087 : Index := Scalar.indexCast arg13
  let c24_560 : Index := 24#32
  ![v1087.toNat, 24]
def k0_off26 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1094 : Index := Scalar.indexCast arg13
  let c25_564 : Index := 25#32
  ![v1094.toNat, 25]
def k0_off27 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1101 : Index := Scalar.indexCast arg13
  let c26_568 : Index := 26#32
  ![v1101.toNat, 26]
def k0_off28 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1108 : Index := Scalar.indexCast arg13
  let c27_572 : Index := 27#32
  ![v1108.toNat, 27]
def k0_off29 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1115 : Index := Scalar.indexCast arg13
  let c28_576 : Index := 28#32
  ![v1115.toNat, 28]
def k0_off30 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1122 : Index := Scalar.indexCast arg13
  let c29_580 : Index := 29#32
  ![v1122.toNat, 29]
def k0_off31 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1129 : Index := Scalar.indexCast arg13
  let c30_584 : Index := 30#32
  ![v1129.toNat, 30]
def k0_off32 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1136 : Index := Scalar.indexCast arg13
  let c31_588 : Index := 31#32
  ![v1136.toNat, 31]
def k0_off33 (k0_t1 : Fin k0_t1_loop.trips) : Fin 2 → Nat :=
  let c0_i32 : BitVec 32 := 0#32
  let c1_i32 : BitVec 32 := 1#32
  let arg13 : BitVec 32 := Scf.iv c0_i32 c1_i32 k0_t1
  let v1143 : Index := Scalar.indexCast arg13
  let c32_592 : Index := 32#32
  ![v1143.toNat, 32]
def k0_off34 (i : grid0.Coords) : Fin 1 → Nat :=
  let arg0 : BitVec 32 := BitVec.ofNat 32 (i 0).val
  let v896 : Index := Scalar.indexCast arg0
  ![v896.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x256x33 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S33x33 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S33x33 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S64 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![64], ![false]⟩

@[reducible] def k1_t1_loop : Scf.Loop 32 :=
  let c0_i32 : BitVec 32 := 0#32
  let c21_i32 : BitVec 32 := 21#32
  let v619 : BitVec 32 := Scalar.addi c0_i32 c21_i32
  let c1_i32 : BitVec 32 := 1#32
  ⟨c0_i32, v619, c1_i32⟩
def k1_off1 (k1_t1 : Fin k1_t1_loop.trips) : Fin 2 → Nat :=
  let c0_i32 : BitVec 32 := 0#32
  let c1_i32 : BitVec 32 := 1#32
  let arg13 : BitVec 32 := Scf.iv c0_i32 c1_i32 k1_t1
  let v644 : Index := Scalar.indexCast arg13
  let c0_356 : Index := 0#32
  ![v644.toNat, 0]
def k1_off2 (k1_t1 : Fin k1_t1_loop.trips) : Fin 2 → Nat :=
  let c0_i32 : BitVec 32 := 0#32
  let c1_i32 : BitVec 32 := 1#32
  let arg13 : BitVec 32 := Scf.iv c0_i32 c1_i32 k1_t1
  let v650 : Index := Scalar.indexCast arg13
  let c1_360 : Index := 1#32
  ![v650.toNat, 1]
def k1_off3 (k1_t1 : Fin k1_t1_loop.trips) : Fin 2 → Nat :=
  let c0_i32 : BitVec 32 := 0#32
  let c1_i32 : BitVec 32 := 1#32
  let arg13 : BitVec 32 := Scf.iv c0_i32 c1_i32 k1_t1
  let v657 : Index := Scalar.indexCast arg13
  let c2_364 : Index := 2#32
  ![v657.toNat, 2]
def k1_off4 (k1_t1 : Fin k1_t1_loop.trips) : Fin 2 → Nat :=
  let c0_i32 : BitVec 32 := 0#32
  let c1_i32 : BitVec 32 := 1#32
  let arg13 : BitVec 32 := Scf.iv c0_i32 c1_i32 k1_t1
  let v664 : Index := Scalar.indexCast arg13
  let c3_368 : Index := 3#32
  ![v664.toNat, 3]
def k1_off5 (k1_t1 : Fin k1_t1_loop.trips) : Fin 2 → Nat :=
  let c0_i32 : BitVec 32 := 0#32
  let c1_i32 : BitVec 32 := 1#32
  let arg13 : BitVec 32 := Scf.iv c0_i32 c1_i32 k1_t1
  let v671 : Index := Scalar.indexCast arg13
  let c4_372 : Index := 4#32
  ![v671.toNat, 4]
def k1_off6 (k1_t1 : Fin k1_t1_loop.trips) : Fin 2 → Nat :=
  let c0_i32 : BitVec 32 := 0#32
  let c1_i32 : BitVec 32 := 1#32
  let arg13 : BitVec 32 := Scf.iv c0_i32 c1_i32 k1_t1
  let v678 : Index := Scalar.indexCast arg13
  let c5_376 : Index := 5#32
  ![v678.toNat, 5]
def k1_off7 (k1_t1 : Fin k1_t1_loop.trips) : Fin 2 → Nat :=
  let c0_i32 : BitVec 32 := 0#32
  let c1_i32 : BitVec 32 := 1#32
  let arg13 : BitVec 32 := Scf.iv c0_i32 c1_i32 k1_t1
  let v685 : Index := Scalar.indexCast arg13
  let c6_380 : Index := 6#32
  ![v685.toNat, 6]
def k1_off8 (k1_t1 : Fin k1_t1_loop.trips) : Fin 2 → Nat :=
  let c0_i32 : BitVec 32 := 0#32
  let c1_i32 : BitVec 32 := 1#32
  let arg13 : BitVec 32 := Scf.iv c0_i32 c1_i32 k1_t1
  let v692 : Index := Scalar.indexCast arg13
  let c7_384 : Index := 7#32
  ![v692.toNat, 7]
def k1_off9 (k1_t1 : Fin k1_t1_loop.trips) : Fin 2 → Nat :=
  let c0_i32 : BitVec 32 := 0#32
  let c1_i32 : BitVec 32 := 1#32
  let arg13 : BitVec 32 := Scf.iv c0_i32 c1_i32 k1_t1
  let v699 : Index := Scalar.indexCast arg13
  let c8_388 : Index := 8#32
  ![v699.toNat, 8]
def k1_off10 (k1_t1 : Fin k1_t1_loop.trips) : Fin 2 → Nat :=
  let c0_i32 : BitVec 32 := 0#32
  let c1_i32 : BitVec 32 := 1#32
  let arg13 : BitVec 32 := Scf.iv c0_i32 c1_i32 k1_t1
  let v706 : Index := Scalar.indexCast arg13
  let c9_392 : Index := 9#32
  ![v706.toNat, 9]
def k1_off11 (k1_t1 : Fin k1_t1_loop.trips) : Fin 2 → Nat :=
  let c0_i32 : BitVec 32 := 0#32
  let c1_i32 : BitVec 32 := 1#32
  let arg13 : BitVec 32 := Scf.iv c0_i32 c1_i32 k1_t1
  let v713 : Index := Scalar.indexCast arg13
  let c10_396 : Index := 10#32
  ![v713.toNat, 10]
def k1_off12 (k1_t1 : Fin k1_t1_loop.trips) : Fin 2 → Nat :=
  let c0_i32 : BitVec 32 := 0#32
  let c1_i32 : BitVec 32 := 1#32
  let arg13 : BitVec 32 := Scf.iv c0_i32 c1_i32 k1_t1
  let v720 : Index := Scalar.indexCast arg13
  let c11_400 : Index := 11#32
  ![v720.toNat, 11]
def k1_off13 (k1_t1 : Fin k1_t1_loop.trips) : Fin 2 → Nat :=
  let c0_i32 : BitVec 32 := 0#32
  let c1_i32 : BitVec 32 := 1#32
  let arg13 : BitVec 32 := Scf.iv c0_i32 c1_i32 k1_t1
  let v727 : Index := Scalar.indexCast arg13
  let c12_404 : Index := 12#32
  ![v727.toNat, 12]
def k1_off14 (k1_t1 : Fin k1_t1_loop.trips) : Fin 2 → Nat :=
  let c0_i32 : BitVec 32 := 0#32
  let c1_i32 : BitVec 32 := 1#32
  let arg13 : BitVec 32 := Scf.iv c0_i32 c1_i32 k1_t1
  let v734 : Index := Scalar.indexCast arg13
  let c13_408 : Index := 13#32
  ![v734.toNat, 13]
def k1_off15 (k1_t1 : Fin k1_t1_loop.trips) : Fin 2 → Nat :=
  let c0_i32 : BitVec 32 := 0#32
  let c1_i32 : BitVec 32 := 1#32
  let arg13 : BitVec 32 := Scf.iv c0_i32 c1_i32 k1_t1
  let v741 : Index := Scalar.indexCast arg13
  let c14_412 : Index := 14#32
  ![v741.toNat, 14]
def k1_off16 (k1_t1 : Fin k1_t1_loop.trips) : Fin 2 → Nat :=
  let c0_i32 : BitVec 32 := 0#32
  let c1_i32 : BitVec 32 := 1#32
  let arg13 : BitVec 32 := Scf.iv c0_i32 c1_i32 k1_t1
  let v748 : Index := Scalar.indexCast arg13
  let c15_416 : Index := 15#32
  ![v748.toNat, 15]
def k1_off17 (k1_t1 : Fin k1_t1_loop.trips) : Fin 2 → Nat :=
  let c0_i32 : BitVec 32 := 0#32
  let c1_i32 : BitVec 32 := 1#32
  let arg13 : BitVec 32 := Scf.iv c0_i32 c1_i32 k1_t1
  let v755 : Index := Scalar.indexCast arg13
  let c16_420 : Index := 16#32
  ![v755.toNat, 16]
def k1_off18 (k1_t1 : Fin k1_t1_loop.trips) : Fin 2 → Nat :=
  let c0_i32 : BitVec 32 := 0#32
  let c1_i32 : BitVec 32 := 1#32
  let arg13 : BitVec 32 := Scf.iv c0_i32 c1_i32 k1_t1
  let v762 : Index := Scalar.indexCast arg13
  let c17_424 : Index := 17#32
  ![v762.toNat, 17]
def k1_off19 (k1_t1 : Fin k1_t1_loop.trips) : Fin 2 → Nat :=
  let c0_i32 : BitVec 32 := 0#32
  let c1_i32 : BitVec 32 := 1#32
  let arg13 : BitVec 32 := Scf.iv c0_i32 c1_i32 k1_t1
  let v769 : Index := Scalar.indexCast arg13
  let c18_428 : Index := 18#32
  ![v769.toNat, 18]
def k1_off20 (k1_t1 : Fin k1_t1_loop.trips) : Fin 2 → Nat :=
  let c0_i32 : BitVec 32 := 0#32
  let c1_i32 : BitVec 32 := 1#32
  let arg13 : BitVec 32 := Scf.iv c0_i32 c1_i32 k1_t1
  let v776 : Index := Scalar.indexCast arg13
  let c19_432 : Index := 19#32
  ![v776.toNat, 19]
def k1_off21 (k1_t1 : Fin k1_t1_loop.trips) : Fin 2 → Nat :=
  let c0_i32 : BitVec 32 := 0#32
  let c1_i32 : BitVec 32 := 1#32
  let arg13 : BitVec 32 := Scf.iv c0_i32 c1_i32 k1_t1
  let v783 : Index := Scalar.indexCast arg13
  let c20_436 : Index := 20#32
  ![v783.toNat, 20]
def k1_off22 (i : grid1.Coords) : Fin 1 → Nat :=
  let arg0 : BitVec 32 := BitVec.ofNat 32 (i 0).val
  let v620 : Index := Scalar.indexCast arg0
  ![v620.toNat]
def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3x256x21 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S21x21 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S21x21 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S9x256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .smem S64 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![64], ![false]⟩

@[reducible] def k2_t1_loop : Scf.Loop 32 :=
  let c0_i32 : BitVec 32 := 0#32
  let c21_i32 : BitVec 32 := 21#32
  let v619 : BitVec 32 := Scalar.addi c0_i32 c21_i32
  let c1_i32 : BitVec 32 := 1#32
  ⟨c0_i32, v619, c1_i32⟩
def k2_off1 (k2_t1 : Fin k2_t1_loop.trips) : Fin 2 → Nat :=
  let c0_i32 : BitVec 32 := 0#32
  let c1_i32 : BitVec 32 := 1#32
  let arg13 : BitVec 32 := Scf.iv c0_i32 c1_i32 k2_t1
  let v644 : Index := Scalar.indexCast arg13
  let c0_356 : Index := 0#32
  ![v644.toNat, 0]
def k2_off2 (k2_t1 : Fin k2_t1_loop.trips) : Fin 2 → Nat :=
  let c0_i32 : BitVec 32 := 0#32
  let c1_i32 : BitVec 32 := 1#32
  let arg13 : BitVec 32 := Scf.iv c0_i32 c1_i32 k2_t1
  let v650 : Index := Scalar.indexCast arg13
  let c1_360 : Index := 1#32
  ![v650.toNat, 1]
def k2_off3 (k2_t1 : Fin k2_t1_loop.trips) : Fin 2 → Nat :=
  let c0_i32 : BitVec 32 := 0#32
  let c1_i32 : BitVec 32 := 1#32
  let arg13 : BitVec 32 := Scf.iv c0_i32 c1_i32 k2_t1
  let v657 : Index := Scalar.indexCast arg13
  let c2_364 : Index := 2#32
  ![v657.toNat, 2]
def k2_off4 (k2_t1 : Fin k2_t1_loop.trips) : Fin 2 → Nat :=
  let c0_i32 : BitVec 32 := 0#32
  let c1_i32 : BitVec 32 := 1#32
  let arg13 : BitVec 32 := Scf.iv c0_i32 c1_i32 k2_t1
  let v664 : Index := Scalar.indexCast arg13
  let c3_368 : Index := 3#32
  ![v664.toNat, 3]
def k2_off5 (k2_t1 : Fin k2_t1_loop.trips) : Fin 2 → Nat :=
  let c0_i32 : BitVec 32 := 0#32
  let c1_i32 : BitVec 32 := 1#32
  let arg13 : BitVec 32 := Scf.iv c0_i32 c1_i32 k2_t1
  let v671 : Index := Scalar.indexCast arg13
  let c4_372 : Index := 4#32
  ![v671.toNat, 4]
def k2_off6 (k2_t1 : Fin k2_t1_loop.trips) : Fin 2 → Nat :=
  let c0_i32 : BitVec 32 := 0#32
  let c1_i32 : BitVec 32 := 1#32
  let arg13 : BitVec 32 := Scf.iv c0_i32 c1_i32 k2_t1
  let v678 : Index := Scalar.indexCast arg13
  let c5_376 : Index := 5#32
  ![v678.toNat, 5]
def k2_off7 (k2_t1 : Fin k2_t1_loop.trips) : Fin 2 → Nat :=
  let c0_i32 : BitVec 32 := 0#32
  let c1_i32 : BitVec 32 := 1#32
  let arg13 : BitVec 32 := Scf.iv c0_i32 c1_i32 k2_t1
  let v685 : Index := Scalar.indexCast arg13
  let c6_380 : Index := 6#32
  ![v685.toNat, 6]
def k2_off8 (k2_t1 : Fin k2_t1_loop.trips) : Fin 2 → Nat :=
  let c0_i32 : BitVec 32 := 0#32
  let c1_i32 : BitVec 32 := 1#32
  let arg13 : BitVec 32 := Scf.iv c0_i32 c1_i32 k2_t1
  let v692 : Index := Scalar.indexCast arg13
  let c7_384 : Index := 7#32
  ![v692.toNat, 7]
def k2_off9 (k2_t1 : Fin k2_t1_loop.trips) : Fin 2 → Nat :=
  let c0_i32 : BitVec 32 := 0#32
  let c1_i32 : BitVec 32 := 1#32
  let arg13 : BitVec 32 := Scf.iv c0_i32 c1_i32 k2_t1
  let v699 : Index := Scalar.indexCast arg13
  let c8_388 : Index := 8#32
  ![v699.toNat, 8]
def k2_off10 (k2_t1 : Fin k2_t1_loop.trips) : Fin 2 → Nat :=
  let c0_i32 : BitVec 32 := 0#32
  let c1_i32 : BitVec 32 := 1#32
  let arg13 : BitVec 32 := Scf.iv c0_i32 c1_i32 k2_t1
  let v706 : Index := Scalar.indexCast arg13
  let c9_392 : Index := 9#32
  ![v706.toNat, 9]
def k2_off11 (k2_t1 : Fin k2_t1_loop.trips) : Fin 2 → Nat :=
  let c0_i32 : BitVec 32 := 0#32
  let c1_i32 : BitVec 32 := 1#32
  let arg13 : BitVec 32 := Scf.iv c0_i32 c1_i32 k2_t1
  let v713 : Index := Scalar.indexCast arg13
  let c10_396 : Index := 10#32
  ![v713.toNat, 10]
def k2_off12 (k2_t1 : Fin k2_t1_loop.trips) : Fin 2 → Nat :=
  let c0_i32 : BitVec 32 := 0#32
  let c1_i32 : BitVec 32 := 1#32
  let arg13 : BitVec 32 := Scf.iv c0_i32 c1_i32 k2_t1
  let v720 : Index := Scalar.indexCast arg13
  let c11_400 : Index := 11#32
  ![v720.toNat, 11]
def k2_off13 (k2_t1 : Fin k2_t1_loop.trips) : Fin 2 → Nat :=
  let c0_i32 : BitVec 32 := 0#32
  let c1_i32 : BitVec 32 := 1#32
  let arg13 : BitVec 32 := Scf.iv c0_i32 c1_i32 k2_t1
  let v727 : Index := Scalar.indexCast arg13
  let c12_404 : Index := 12#32
  ![v727.toNat, 12]
def k2_off14 (k2_t1 : Fin k2_t1_loop.trips) : Fin 2 → Nat :=
  let c0_i32 : BitVec 32 := 0#32
  let c1_i32 : BitVec 32 := 1#32
  let arg13 : BitVec 32 := Scf.iv c0_i32 c1_i32 k2_t1
  let v734 : Index := Scalar.indexCast arg13
  let c13_408 : Index := 13#32
  ![v734.toNat, 13]
def k2_off15 (k2_t1 : Fin k2_t1_loop.trips) : Fin 2 → Nat :=
  let c0_i32 : BitVec 32 := 0#32
  let c1_i32 : BitVec 32 := 1#32
  let arg13 : BitVec 32 := Scf.iv c0_i32 c1_i32 k2_t1
  let v741 : Index := Scalar.indexCast arg13
  let c14_412 : Index := 14#32
  ![v741.toNat, 14]
def k2_off16 (k2_t1 : Fin k2_t1_loop.trips) : Fin 2 → Nat :=
  let c0_i32 : BitVec 32 := 0#32
  let c1_i32 : BitVec 32 := 1#32
  let arg13 : BitVec 32 := Scf.iv c0_i32 c1_i32 k2_t1
  let v748 : Index := Scalar.indexCast arg13
  let c15_416 : Index := 15#32
  ![v748.toNat, 15]
def k2_off17 (k2_t1 : Fin k2_t1_loop.trips) : Fin 2 → Nat :=
  let c0_i32 : BitVec 32 := 0#32
  let c1_i32 : BitVec 32 := 1#32
  let arg13 : BitVec 32 := Scf.iv c0_i32 c1_i32 k2_t1
  let v755 : Index := Scalar.indexCast arg13
  let c16_420 : Index := 16#32
  ![v755.toNat, 16]
def k2_off18 (k2_t1 : Fin k2_t1_loop.trips) : Fin 2 → Nat :=
  let c0_i32 : BitVec 32 := 0#32
  let c1_i32 : BitVec 32 := 1#32
  let arg13 : BitVec 32 := Scf.iv c0_i32 c1_i32 k2_t1
  let v762 : Index := Scalar.indexCast arg13
  let c17_424 : Index := 17#32
  ![v762.toNat, 17]
def k2_off19 (k2_t1 : Fin k2_t1_loop.trips) : Fin 2 → Nat :=
  let c0_i32 : BitVec 32 := 0#32
  let c1_i32 : BitVec 32 := 1#32
  let arg13 : BitVec 32 := Scf.iv c0_i32 c1_i32 k2_t1
  let v769 : Index := Scalar.indexCast arg13
  let c18_428 : Index := 18#32
  ![v769.toNat, 18]
def k2_off20 (k2_t1 : Fin k2_t1_loop.trips) : Fin 2 → Nat :=
  let c0_i32 : BitVec 32 := 0#32
  let c1_i32 : BitVec 32 := 1#32
  let arg13 : BitVec 32 := Scf.iv c0_i32 c1_i32 k2_t1
  let v776 : Index := Scalar.indexCast arg13
  let c19_432 : Index := 19#32
  ![v776.toNat, 19]
def k2_off21 (k2_t1 : Fin k2_t1_loop.trips) : Fin 2 → Nat :=
  let c0_i32 : BitVec 32 := 0#32
  let c1_i32 : BitVec 32 := 1#32
  let arg13 : BitVec 32 := Scf.iv c0_i32 c1_i32 k2_t1
  let v783 : Index := Scalar.indexCast arg13
  let c20_436 : Index := 20#32
  ![v783.toNat, 20]
def k2_off22 (i : grid2.Coords) : Fin 1 → Nat :=
  let arg0 : BitVec 32 := BitVec.ofNat 32 (i 0).val
  let v620 : Index := Scalar.indexCast arg0
  ![v620.toNat]
def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x3x256x21 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S21x21 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .smem S21x21 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S9x256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .smem S64 .i32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x256x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== KernelIdeal.lean ====
variable {F : FTy → Type} [FloatOps F] [Named F]
def κ : String → Option EReal := fun
  | "inv21" => some ((21⁻¹ : ℝ) : EReal)
  | "inv33" => some ((33⁻¹ : ℝ) : EReal)
  | _ => none
-- ==== ReferenceIdeal.lean ====
abbrev S64x256x33x3 : Shape := ⟨4, ![64, 256, 33, 3]⟩
abbrev S64x256x21x3 : Shape := ⟨4, ![64, 256, 21, 3]⟩
abbrev S64 : Shape := ⟨1, ![64]⟩
abbrev S33x33 : Shape := ⟨2, ![33, 33]⟩
abbrev S3x256 : Shape := ⟨2, ![3, 256]⟩
abbrev S9x256x256 : Shape := ⟨3, ![9, 256, 256]⟩
abbrev S256x256 : Shape := ⟨2, ![256, 256]⟩
abbrev S21x21 : Shape := ⟨2, ![21, 21]⟩
abbrev S_ : Shape := ⟨0, ![]⟩
abbrev S33 : Shape := ⟨1, ![33]⟩
abbrev S33x1 : Shape := ⟨2, ![33, 1]⟩
abbrev S64x256x33x256 : Shape := ⟨4, ![64, 256, 33, 256]⟩
abbrev S64x256x256x33 : Shape := ⟨4, ![64, 256, 256, 33]⟩
abbrev S64x264x33x256 : Shape := ⟨4, ![64, 264, 33, 256]⟩
abbrev S1x256x256 : Shape := ⟨3, ![1, 256, 256]⟩
abbrev S64x256x256 : Shape := ⟨3, ![64, 256, 256]⟩
abbrev S21 : Shape := ⟨1, ![21]⟩
abbrev S21x1 : Shape := ⟨2, ![21, 1]⟩
abbrev S64x256x21x256 : Shape := ⟨4, ![64, 256, 21, 256]⟩
abbrev S64x256x256x21 : Shape := ⟨4, ![64, 256, 256, 21]⟩
abbrev S64x264x21x256 : Shape := ⟨4, ![64, 264, 21, 256]⟩
abbrev S64x256x768 : Shape := ⟨3, ![64, 256, 768]⟩
abbrev S256 : Shape := ⟨1, ![256]⟩
abbrev S1x256 : Shape := ⟨2, ![1, 256]⟩
abbrev S64x1 : Shape := ⟨2, ![64, 1]⟩
abbrev S64x256 : Shape := ⟨2, ![64, 256]⟩
abbrev S64x256x1 : Shape := ⟨3, ![64, 256, 1]⟩
abbrev S64x768 : Shape := ⟨2, ![64, 768]⟩

abbrev nBuf : Space → Nat
  | .hbm => 289
  | .vmem => 0
  | .smem => 0
  | _ => 0

abbrev hbmTy0_0 (i : Nat) : BufTy := match i % 128 with
  | 0 => ⟨S64x256x33x3, .f32⟩
  | 1 => ⟨S64x256x21x3, .f32⟩
  | 2 => ⟨S64x256x21x3, .f32⟩
  | 3 => ⟨S64, .i32⟩
  | 4 => ⟨S33x33, .f32⟩
  | 5 => ⟨S3x256, .f32⟩
  | 6 => ⟨S9x256x256, .f32⟩
  | 7 => ⟨S256x256, .f32⟩
  | 8 => ⟨S21x21, .f32⟩
  | 9 => ⟨S3x256, .f32⟩
  | 10 => ⟨S9x256x256, .f32⟩
  | 11 => ⟨S256x256, .f32⟩
  | 12 => ⟨S21x21, .f32⟩
  | 13 => ⟨S3x256, .f32⟩
  | 14 => ⟨S9x256x256, .f32⟩
  | 15 => ⟨S256x256, .f32⟩
  | 16 => ⟨S33x33, .i32⟩
  | 17 => ⟨S33x33, .i32⟩
  | 18 => ⟨S_, .i32⟩
  | 19 => ⟨S33x33, .i32⟩
  | 20 => ⟨S33x33, .i32⟩
  | 21 => ⟨S33x33, .i1⟩
  | 22 => ⟨S33x33, .f32⟩
  | 23 => ⟨S33x33, .f32⟩
  | 24 => ⟨S_, .f32⟩
  | 25 => ⟨S33, .f32⟩
  | 26 => ⟨S_, .f32⟩
  | 27 => ⟨S_, .f32⟩
  | 28 => ⟨S33, .f32⟩
  | 29 => ⟨S33, .f32⟩
  | 30 => ⟨S33x1, .f32⟩
  | 31 => ⟨S33x33, .f32⟩
  | 32 => ⟨S33x33, .f32⟩
  | 33 => ⟨S64x256x33x256, .f32⟩
  | 34 => ⟨S64x256x256x33, .f32⟩
  | 35 => ⟨S64x256x33x256, .f32⟩
  | 36 => ⟨S_, .f32⟩
  | 37 => ⟨S64x256x33x256, .f32⟩
  | 38 => ⟨S64x256x33x256, .f32⟩
  | 39 => ⟨S_, .i32⟩
  | 40 => ⟨S_, .f32⟩
  | 41 => ⟨S64x264x33x256, .f32⟩
  | 42 => ⟨S64x256x33x256, .f32⟩
  | 43 => ⟨S1x256x256, .f32⟩
  | 44 => ⟨S256x256, .f32⟩
  | 45 => ⟨S64x256x33x256, .f32⟩
  | 46 => ⟨S64x256x33x256, .f32⟩
  | 47 => ⟨S1x256x256, .f32⟩
  | 48 => ⟨S256x256, .f32⟩
  | 49 => ⟨S64x256x33x256, .f32⟩
  | 50 => ⟨S64x256x33x256, .f32⟩
  | 51 => ⟨S64x256x33x256, .f32⟩
  | 52 => ⟨S1x256x256, .f32⟩
  | 53 => ⟨S256x256, .f32⟩
  | 54 => ⟨S64x256x33x256, .f32⟩
  | 55 => ⟨S64x256x33x256, .f32⟩
  | 56 => ⟨S64x256x33x256, .f32⟩
  | 57 => ⟨S1x256x256, .f32⟩
  | 58 => ⟨S256x256, .f32⟩
  | 59 => ⟨S64x256x33x256, .f32⟩
  | 60 => ⟨S64x256x33x256, .f32⟩
  | 61 => ⟨S64x256x33x256, .f32⟩
  | 62 => ⟨S1x256x256, .f32⟩
  | 63 => ⟨S256x256, .f32⟩
  | 64 => ⟨S64x256x33x256, .f32⟩
  | 65 => ⟨S64x256x33x256, .f32⟩
  | 66 => ⟨S64x256x33x256, .f32⟩
  | 67 => ⟨S1x256x256, .f32⟩
  | 68 => ⟨S256x256, .f32⟩
  | 69 => ⟨S64x256x33x256, .f32⟩
  | 70 => ⟨S64x256x33x256, .f32⟩
  | 71 => ⟨S64x256x33x256, .f32⟩
  | 72 => ⟨S1x256x256, .f32⟩
  | 73 => ⟨S256x256, .f32⟩
  | 74 => ⟨S64x256x33x256, .f32⟩
  | 75 => ⟨S64x256x33x256, .f32⟩
  | 76 => ⟨S64x256x33x256, .f32⟩
  | 77 => ⟨S1x256x256, .f32⟩
  | 78 => ⟨S256x256, .f32⟩
  | 79 => ⟨S64x256x33x256, .f32⟩
  | 80 => ⟨S64x256x33x256, .f32⟩
  | 81 => ⟨S64x256x33x256, .f32⟩
  | 82 => ⟨S1x256x256, .f32⟩
  | 83 => ⟨S256x256, .f32⟩
  | 84 => ⟨S64x256x33x256, .f32⟩
  | 85 => ⟨S64x256x33x256, .f32⟩
  | 86 => ⟨S_, .f32⟩
  | 87 => ⟨S64x256x33x256, .f32⟩
  | 88 => ⟨S64x256x33x256, .f32⟩
  | 89 => ⟨S64x256x33x256, .f32⟩
  | 90 => ⟨S64x256x256x33, .f32⟩
  | 91 => ⟨S64x256x33x256, .f32⟩
  | 92 => ⟨S_, .f32⟩
  | 93 => ⟨S64x256x33x256, .f32⟩
  | 94 => ⟨S64x256x33x256, .f32⟩
  | 95 => ⟨S_, .f32⟩
  | 96 => ⟨S64x256x256, .f32⟩
  | 97 => ⟨S_, .f32⟩
  | 98 => ⟨S64x256x256, .f32⟩
  | 99 => ⟨S64x256x256, .f32⟩
  | 100 => ⟨S21x21, .i32⟩
  | 101 => ⟨S21x21, .i32⟩
  | 102 => ⟨S_, .i32⟩
  | 103 => ⟨S21x21, .i32⟩
  | 104 => ⟨S21x21, .i32⟩
  | 105 => ⟨S21x21, .i1⟩
  | 106 => ⟨S21x21, .f32⟩
  | 107 => ⟨S21x21, .f32⟩
  | 108 => ⟨S_, .f32⟩
  | 109 => ⟨S21, .f32⟩
  | 110 => ⟨S_, .f32⟩
  | 111 => ⟨S_, .f32⟩
  | 112 => ⟨S21, .f32⟩
  | 113 => ⟨S21, .f32⟩
  | 114 => ⟨S21x1, .f32⟩
  | 115 => ⟨S21x21, .f32⟩
  | 116 => ⟨S21x21, .f32⟩
  | 117 => ⟨S64x256x21x256, .f32⟩
  | 118 => ⟨S64x256x256x21, .f32⟩
  | 119 => ⟨S64x256x21x256, .f32⟩
  | 120 => ⟨S_, .f32⟩
  | 121 => ⟨S64x256x21x256, .f32⟩
  | 122 => ⟨S64x256x21x256, .f32⟩
  | 123 => ⟨S_, .i32⟩
  | 124 => ⟨S_, .f32⟩
  | 125 => ⟨S64x264x21x256, .f32⟩
  | 126 => ⟨S64x256x21x256, .f32⟩
  | 127 => ⟨S1x256x256, .f32⟩
  | _ => ⟨S64x256x33x3, .f32⟩

abbrev hbmTy0_1 (i : Nat) : BufTy := match i % 128 with
  | 0 => ⟨S256x256, .f32⟩
  | 1 => ⟨S64x256x21x256, .f32⟩
  | 2 => ⟨S64x256x21x256, .f32⟩
  | 3 => ⟨S1x256x256, .f32⟩
  | 4 => ⟨S256x256, .f32⟩
  | 5 => ⟨S64x256x21x256, .f32⟩
  | 6 => ⟨S64x256x21x256, .f32⟩
  | 7 => ⟨S64x256x21x256, .f32⟩
  | 8 => ⟨S1x256x256, .f32⟩
  | 9 => ⟨S256x256, .f32⟩
  | 10 => ⟨S64x256x21x256, .f32⟩
  | 11 => ⟨S64x256x21x256, .f32⟩
  | 12 => ⟨S64x256x21x256, .f32⟩
  | 13 => ⟨S1x256x256, .f32⟩
  | 14 => ⟨S256x256, .f32⟩
  | 15 => ⟨S64x256x21x256, .f32⟩
  | 16 => ⟨S64x256x21x256, .f32⟩
  | 17 => ⟨S64x256x21x256, .f32⟩
  | 18 => ⟨S1x256x256, .f32⟩
  | 19 => ⟨S256x256, .f32⟩
  | 20 => ⟨S64x256x21x256, .f32⟩
  | 21 => ⟨S64x256x21x256, .f32⟩
  | 22 => ⟨S64x256x21x256, .f32⟩
  | 23 => ⟨S1x256x256, .f32⟩
  | 24 => ⟨S256x256, .f32⟩
  | 25 => ⟨S64x256x21x256, .f32⟩
  | 26 => ⟨S64x256x21x256, .f32⟩
  | 27 => ⟨S64x256x21x256, .f32⟩
  | 28 => ⟨S1x256x256, .f32⟩
  | 29 => ⟨S256x256, .f32⟩
  | 30 => ⟨S64x256x21x256, .f32⟩
  | 31 => ⟨S64x256x21x256, .f32⟩
  | 32 => ⟨S64x256x21x256, .f32⟩
  | 33 => ⟨S1x256x256, .f32⟩
  | 34 => ⟨S256x256, .f32⟩
  | 35 => ⟨S64x256x21x256, .f32⟩
  | 36 => ⟨S64x256x21x256, .f32⟩
  | 37 => ⟨S64x256x21x256, .f32⟩
  | 38 => ⟨S1x256x256, .f32⟩
  | 39 => ⟨S256x256, .f32⟩
  | 40 => ⟨S64x256x21x256, .f32⟩
  | 41 => ⟨S64x256x21x256, .f32⟩
  | 42 => ⟨S_, .f32⟩
  | 43 => ⟨S64x256x21x256, .f32⟩
  | 44 => ⟨S64x256x21x256, .f32⟩
  | 45 => ⟨S64x256x21x256, .f32⟩
  | 46 => ⟨S64x256x256x21, .f32⟩
  | 47 => ⟨S64x256x21x256, .f32⟩
  | 48 => ⟨S_, .f32⟩
  | 49 => ⟨S64x256x21x256, .f32⟩
  | 50 => ⟨S64x256x21x256, .f32⟩
  | 51 => ⟨S_, .f32⟩
  | 52 => ⟨S64x256x256, .f32⟩
  | 53 => ⟨S_, .f32⟩
  | 54 => ⟨S64x256x256, .f32⟩
  | 55 => ⟨S64x256x256, .f32⟩
  | 56 => ⟨S21x21, .i32⟩
  | 57 => ⟨S21x21, .i32⟩
  | 58 => ⟨S_, .i32⟩
  | 59 => ⟨S21x21, .i32⟩
  | 60 => ⟨S21x21, .i32⟩
  | 61 => ⟨S21x21, .i1⟩
  | 62 => ⟨S21x21, .f32⟩
  | 63 => ⟨S21x21, .f32⟩
  | 64 => ⟨S_, .f32⟩
  | 65 => ⟨S21, .f32⟩
  | 66 => ⟨S_, .f32⟩
  | 67 => ⟨S_, .f32⟩
  | 68 => ⟨S21, .f32⟩
  | 69 => ⟨S21, .f32⟩
  | 70 => ⟨S21x1, .f32⟩
  | 71 => ⟨S21x21, .f32⟩
  | 72 => ⟨S21x21, .f32⟩
  | 73 => ⟨S64x256x21x256, .f32⟩
  | 74 => ⟨S64x256x256x21, .f32⟩
  | 75 => ⟨S64x256x21x256, .f32⟩
  | 76 => ⟨S_, .f32⟩
  | 77 => ⟨S64x256x21x256, .f32⟩
  | 78 => ⟨S64x256x21x256, .f32⟩
  | 79 => ⟨S_, .i32⟩
  | 80 => ⟨S_, .f32⟩
  | 81 => ⟨S64x264x21x256, .f32⟩
  | 82 => ⟨S64x256x21x256, .f32⟩
  | 83 => ⟨S1x256x256, .f32⟩
  | 84 => ⟨S256x256, .f32⟩
  | 85 => ⟨S64x256x21x256, .f32⟩
  | 86 => ⟨S64x256x21x256, .f32⟩
  | 87 => ⟨S1x256x256, .f32⟩
  | 88 => ⟨S256x256, .f32⟩
  | 89 => ⟨S64x256x21x256, .f32⟩
  | 90 => ⟨S64x256x21x256, .f32⟩
  | 91 => ⟨S64x256x21x256, .f32⟩
  | 92 => ⟨S1x256x256, .f32⟩
  | 93 => ⟨S256x256, .f32⟩
  | 94 => ⟨S64x256x21x256, .f32⟩
  | 95 => ⟨S64x256x21x256, .f32⟩
  | 96 => ⟨S64x256x21x256, .f32⟩
  | 97 => ⟨S1x256x256, .f32⟩
  | 98 => ⟨S256x256, .f32⟩
  | 99 => ⟨S64x256x21x256, .f32⟩
  | 100 => ⟨S64x256x21x256, .f32⟩
  | 101 => ⟨S64x256x21x256, .f32⟩
  | 102 => ⟨S1x256x256, .f32⟩
  | 103 => ⟨S256x256, .f32⟩
  | 104 => ⟨S64x256x21x256, .f32⟩
  | 105 => ⟨S64x256x21x256, .f32⟩
  | 106 => ⟨S64x256x21x256, .f32⟩
  | 107 => ⟨S1x256x256, .f32⟩
  | 108 => ⟨S256x256, .f32⟩
  | 109 => ⟨S64x256x21x256, .f32⟩
  | 110 => ⟨S64x256x21x256, .f32⟩
  | 111 => ⟨S64x256x21x256, .f32⟩
  | 112 => ⟨S1x256x256, .f32⟩
  | 113 => ⟨S256x256, .f32⟩
  | 114 => ⟨S64x256x21x256, .f32⟩
  | 115 => ⟨S64x256x21x256, .f32⟩
  | 116 => ⟨S64x256x21x256, .f32⟩
  | 117 => ⟨S1x256x256, .f32⟩
  | 118 => ⟨S256x256, .f32⟩
  | 119 => ⟨S64x256x21x256, .f32⟩
  | 120 => ⟨S64x256x21x256, .f32⟩
  | 121 => ⟨S64x256x21x256, .f32⟩
  | 122 => ⟨S1x256x256, .f32⟩
  | 123 => ⟨S256x256, .f32⟩
  | 124 => ⟨S64x256x21x256, .f32⟩
  | 125 => ⟨S64x256x21x256, .f32⟩
  | 126 => ⟨S_, .f32⟩
  | 127 => ⟨S64x256x21x256, .f32⟩
  | _ => ⟨S64x256x33x3, .f32⟩

abbrev hbmTy0_2 (i : Nat) : BufTy := match i % 128 with
  | 0 => ⟨S64x256x21x256, .f32⟩
  | 1 => ⟨S64x256x21x256, .f32⟩
  | 2 => ⟨S64x256x256x21, .f32⟩
  | 3 => ⟨S64x256x21x256, .f32⟩
  | 4 => ⟨S_, .f32⟩
  | 5 => ⟨S64x256x21x256, .f32⟩
  | 6 => ⟨S64x256x21x256, .f32⟩
  | 7 => ⟨S_, .f32⟩
  | 8 => ⟨S64x256x256, .f32⟩
  | 9 => ⟨S_, .f32⟩
  | 10 => ⟨S64x256x256, .f32⟩
  | 11 => ⟨S64x256x256, .f32⟩
  | 12 => ⟨S64x256x768, .f32⟩
  | 13 => ⟨S256, .i32⟩
  | 14 => ⟨S1x256, .i32⟩
  | 15 => ⟨S64x1, .i32⟩
  | 16 => ⟨S64x256, .i32⟩
  | 17 => ⟨S64x256, .i32⟩
  | 18 => ⟨S64x256, .i1⟩
  | 19 => ⟨S64x256, .f32⟩
  | 20 => ⟨S64x256x1, .f32⟩
  | 21 => ⟨S64x256x768, .f32⟩
  | 22 => ⟨S64x256x768, .f32⟩
  | 23 => ⟨S64, .f32⟩
  | 24 => ⟨S_, .f32⟩
  | 25 => ⟨S_, .f32⟩
  | 26 => ⟨S64, .f32⟩
  | 27 => ⟨S64, .f32⟩
  | 28 => ⟨S64x1, .f32⟩
  | 29 => ⟨S_, .f32⟩
  | 30 => ⟨S64x768, .f32⟩
  | 31 => ⟨S64x768, .f32⟩
  | 32 => ⟨S64x768, .f32⟩
  | _ => ⟨S64x256x33x3, .f32⟩

abbrev hbmTy (i : Nat) : BufTy := match i / 128 with
  | 0 => hbmTy0_0 i
  | 1 => hbmTy0_1 i
  | 2 => hbmTy0_2 i
  | _ => ⟨S64x256x33x3, .f32⟩

abbrev bufTy : (tb : Table) → Fin (tcTables nBuf tb) → BufTy
  | .hbm, ⟨i, _⟩ => hbmTy i
  | _, _ => ⟨S64x256x33x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call1_cst : Ref sig .tc := ⟨.hbm, 36, rfl⟩
abbrev main_call1_v0 : Ref sig .tc := ⟨.hbm, 37, rfl⟩
abbrev main_v15 : Ref sig .tc := ⟨.hbm, 38, rfl⟩
abbrev main_c_1 : Ref sig .tc := ⟨.hbm, 39, rfl⟩
abbrev main_call2_v0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call3_cst : Ref sig .tc := ⟨.hbm, 86, rfl⟩
abbrev main_call3_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call4_cst : Ref sig .tc := ⟨.hbm, 92, rfl⟩
abbrev main_call4_v0 : Ref sig .tc := ⟨.hbm, 93, rfl⟩
abbrev main_v65 : Ref sig .tc := ⟨.hbm, 94, rfl⟩
abbrev main_cst_2 : Ref sig .tc := ⟨.hbm, 95, rfl⟩
abbrev main_v66 : Ref sig .tc := ⟨.hbm, 96, rfl⟩
abbrev main_cst_3 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_4 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_5 : Ref sig .tc := ⟨.hbm, 108, rfl⟩
abbrev main_v76 : Ref sig .tc := ⟨.hbm, 109, rfl⟩
abbrev main_cst_6 : Ref sig .tc := ⟨.hbm, 110, rfl⟩
abbrev main_call5_v0 : Ref sig .tc := ⟨.hbm, 111, rfl⟩
abbrev main_call5_v1 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call6_cst : Ref sig .tc := ⟨.hbm, 120, rfl⟩
abbrev main_call6_v0 : Ref sig .tc := ⟨.hbm, 121, rfl⟩
abbrev main_v84 : Ref sig .tc := ⟨.hbm, 122, rfl⟩
abbrev main_c_7 : Ref sig .tc := ⟨.hbm, 123, rfl⟩
abbrev main_call7_v0 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_call8_cst : Ref sig .tc := ⟨.hbm, 170, rfl⟩
abbrev main_call8_v0 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_call9_cst : Ref sig .tc := ⟨.hbm, 176, rfl⟩
abbrev main_call9_v0 : Ref sig .tc := ⟨.hbm, 177, rfl⟩
abbrev main_v134 : Ref sig .tc := ⟨.hbm, 178, rfl⟩
abbrev main_cst_8 : Ref sig .tc := ⟨.hbm, 179, rfl⟩
abbrev main_v135 : Ref sig .tc := ⟨.hbm, 180, rfl⟩
abbrev main_cst_9 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_c_10 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_11 : Ref sig .tc := ⟨.hbm, 192, rfl⟩
abbrev main_v145 : Ref sig .tc := ⟨.hbm, 193, rfl⟩
abbrev main_cst_12 : Ref sig .tc := ⟨.hbm, 194, rfl⟩
abbrev main_call10_v0 : Ref sig .tc := ⟨.hbm, 195, rfl⟩
abbrev main_call10_v1 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_call11_cst : Ref sig .tc := ⟨.hbm, 204, rfl⟩
abbrev main_call11_v0 : Ref sig .tc := ⟨.hbm, 205, rfl⟩
abbrev main_v153 : Ref sig .tc := ⟨.hbm, 206, rfl⟩
abbrev main_c_13 : Ref sig .tc := ⟨.hbm, 207, rfl⟩
abbrev main_call12_v0 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_call13_cst : Ref sig .tc := ⟨.hbm, 254, rfl⟩
abbrev main_call13_v0 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_call14_cst : Ref sig .tc := ⟨.hbm, 260, rfl⟩
abbrev main_call14_v0 : Ref sig .tc := ⟨.hbm, 261, rfl⟩
abbrev main_v203 : Ref sig .tc := ⟨.hbm, 262, rfl⟩
abbrev main_cst_14 : Ref sig .tc := ⟨.hbm, 263, rfl⟩
abbrev main_v204 : Ref sig .tc := ⟨.hbm, 264, rfl⟩
abbrev main_cst_15 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_cst_16 : Ref sig .tc := ⟨.hbm, 280, rfl⟩
abbrev main_call15_v0 : Ref sig .tc := ⟨.hbm, 281, rfl⟩
abbrev main_call15_v1 : Ref sig .tc := ⟨.hbm, 282, rfl⟩
abbrev main_v219 : Ref sig .tc := ⟨.hbm, 283, rfl⟩
abbrev main_v220 : Ref sig .tc := ⟨.hbm, 284, rfl⟩
abbrev main_cst_17 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩

abbrev nD : Nat := 1
abbrev τ : Topo := Topo.v7x

variable {F : FTy → Type} [FloatOps F]
-- ==== Proof.Spec.lean ====
/- What one body part of the network computes, over the extended reals: the plain functions both programs are read down to.
   `K` is the number of vertices of the part (33 for the body, 21 for a hand); a clip has 256 frames and 256 channels. -/
module

public import Idealize.ShloMosaic.Lib.Pointwise

@[expose] public section

noncomputable section

namespace Cert.Proof

open Idealize.ShloMosaic

/-- The row of 256 frames padded with four zeros on both sides, at padded frame `s`. -/
def padRow (f : Fin 256 → EReal) (s : ℕ) : EReal := if h : 4 ≤ s ∧ s - 4 < 256 then f ⟨s - 4, h.2⟩ else 0

/-- Four rows in, a padded column holds the column. -/
theorem padRow_row (f : Fin 256 → EReal) (s : ℕ) (t : Fin 256) (h : s = 4 + t.val) : padRow f s = f t := by
  subst h
  rw [padRow, dif_pos ⟨by omega, by omega⟩]
  congr 1
  exact Fin.ext (by simp)

/-- Outside those rows it holds zero. -/
theorem padRow_pad (f : Fin 256 → EReal) (s : ℕ) (h : s < 4 ∨ 260 ≤ s) : padRow f s = 0 := by
  rw [padRow, dif_neg (by omega)]

/-- Tap `d` of the temporal convolution reads the padded frame `d + t`. -/
def tapAt {K : ℕ} (h0 : Fin 256 → Fin K → Fin 256 → EReal) (Wt : Fin 9 → Fin 256 → Fin 256 → EReal)
    (t : Fin 256) (k : Fin K) (g : Fin 256) (d : Fin 9) : EReal :=
  ∑ h : Fin 256, padRow (fun s => h0 s k h) (d.val + t.val) * Wt d h g

/-- The temporal convolution: the sum of its nine taps. -/
def conv {K : ℕ} (h0 : Fin 256 → Fin K → Fin 256 → EReal) (Wt : Fin 9 → Fin 256 → Fin 256 → EReal)
    (t : Fin 256) (k : Fin K) (g : Fin 256) : EReal :=
  ∑ d : Fin 9, tapAt h0 Wt t k g d

/-- The second graph layer before its vertex mixing: the rectified convolution times `W2`. -/
def feat {K : ℕ} (h0 : Fin 256 → Fin K → Fin 256 → EReal) (Wt : Fin 9 → Fin 256 → Fin 256 → EReal)
    (W2 : Fin 256 → Fin 256 → EReal) (t : Fin 256) (k : Fin K) (g : Fin 256) : EReal :=
  ∑ h : Fin 256, max (conv h0 Wt t k h) 0 * W2 h g

/-- The sum over the vertices of the rectified mixing of the features by `An`. -/
def mixSum {K : ℕ} (An : Fin K → Fin K → EReal) (z : Fin K → EReal) : EReal :=
  ∑ k : Fin K, max (∑ j : Fin K, z j * An k j) 0

/-- The first graph layer as the reference computes it: features by `W1` first, then the mixing by `An`. -/
def layer1 {K : ℕ} (x : Fin 256 → Fin K → Fin 3 → EReal) (An : Fin K → Fin K → EReal) (W1 : Fin 3 → Fin 256 → EReal)
    (t : Fin 256) (k : Fin K) (h : Fin 256) : EReal :=
  max (∑ j : Fin K, (∑ c : Fin 3, x t j c * W1 c h) * An k j) 0

/-- The first graph layer as the kernel computes it: each coordinate is mixed by `An` first, then the three are
    combined by `W1`. -/
def layer1' {K : ℕ} (x : Fin 256 → Fin K → Fin 3 → EReal) (An : Fin K → Fin K → EReal) (W1 : Fin 3 → Fin 256 → EReal)
    (t : Fin 256) (k : Fin K) (h : Fin 256) : EReal :=
  max (((∑ j : Fin K, x t j 0 * An k j) * W1 0 h + (∑ j : Fin K, x t j 1 * An k j) * W1 1 h)
    + (∑ j : Fin K, x t j 2 * An k j) * W1 2 h) 0

/-- The identity matrix as both programs print it: the comparison of two index words, converted to a float. -/
def eyeAt (k j : ℕ) : EReal :=
  FloatOps.uitofp (F := Ideal) .f32 (IntOp.cmpi .eq (IntOp.addi (BitVec.ofNat 32 k) 0#32) (BitVec.ofNat 32 j))

/-- The adjacency with self loops, each row divided by its sum clipped below at 1e-6. -/
def normAdj {K : ℕ} (A : Fin K → Fin K → EReal) (k j : Fin K) : EReal :=
  Ideal.div (A k j + eyeAt k j) (max (Ideal.ofBits .f32 0x358637BD#32) (∑ x : Fin K, (A k x + eyeAt k x)))

/-- An extended real that is a real number. -/
def Fin' (x : EReal) : Prop := ∃ r : ℝ, x = (r : EReal)

/-- A finite sum of reals is the sum of their extended values. -/
theorem coe_sum {n : ℕ} (f : Fin n → ℝ) : (((∑ i, f i : ℝ)) : EReal) = ∑ i, (f i : EReal) := by
  induction n with
  | zero => simp
  | succ n ih => rw [Fin.sum_univ_succ, Fin.sum_univ_succ, EReal.coe_add, ih]

/-- For real coordinates, adjacency and weights the two orders of the first layer give the same number: the only
    place where the two programs differ in the order of a product of sums. -/
theorem layer1'_eq {K : ℕ} (x : Fin 256 → Fin K → Fin 3 → EReal) (An : Fin K → Fin K → EReal) (W1 : Fin 3 → Fin 256 → EReal)
    (hx : ∀ t j c, Fin' (x t j c)) (hA : ∀ k j, Fin' (An k j)) (hW : ∀ c h, Fin' (W1 c h)) :
    layer1' x An W1 = layer1 x An W1 := by
  choose x' hx using hx
  choose A' hA using hA
  choose W' hW using hW
  funext t k h
  unfold layer1' layer1
  simp only [hx, hA, hW, Fin.sum_univ_three, ← EReal.coe_mul, ← EReal.coe_add, ← coe_sum]
  congr 2
  simp only [Finset.sum_mul, ← Finset.sum_add_distrib]
  exact Finset.sum_congr rfl fun j _ => by ring

/-- The printed clip bound 1e-6 is a positive real number. -/
theorem clip_pos : ∃ r : ℝ, 0 < r ∧ Ideal.ofBits .f32 0x358637BD#32 = (r : EReal) := by
  refine ⟨8796093 * (2 : ℝ) ^ (-43 : ℤ), by positivity, ?_⟩
  simp [Ideal.ofBits, Ideal.ieee, -EReal.coe_mul]

/-- An entry of the identity is a real number. -/
theorem eyeAt_real (k j : ℕ) : Fin' (eyeAt k j) := ⟨_, rfl⟩

/-- A real adjacency has a real normalisation: every divisor is at least the clip bound. -/
theorem normAdj_real {K : ℕ} (A : Fin K → Fin K → EReal) (hA : ∀ k j, Fin' (A k j)) (k j : Fin K) : Fin' (normAdj A k j) := by
  choose A' hA using hA
  choose e he using fun k j : ℕ => eyeAt_real k j
  obtain ⟨r, hr, hc⟩ := clip_pos
  unfold normAdj
  simp only [hA, he, hc, ← EReal.coe_add, ← coe_sum]
  have hmax : ∀ u v : ℝ, max (u : EReal) (v : EReal) = ((max u v : ℝ) : EReal) :=
    fun u v => (EReal.coe_strictMono.monotone.map_max).symm
  rw [hmax, Ideal.div_coe (ne_of_gt (lt_of_lt_of_le hr (le_max_left _ _)))]
  exact ⟨_, (EReal.coe_mul _ _).symm⟩

/-- The printed 33 is that number, so that dividing by it is multiplying by its reciprocal. -/
theorem div33 (x : EReal) : Ideal.div x (Ideal.ofBits .f32 0x42040000#32) = x * ((33⁻¹ : ℝ) : EReal) := by
  rw [show Ideal.ofBits .f32 0x42040000#32 = ((33 : ℝ) : EReal) by simp [Ideal.ofBits, Ideal.ieee, -EReal.coe_mul]; norm_num,
    Ideal.div_coe (by norm_num), one_div]
/-- The same of the printed 21. -/
theorem div21 (x : EReal) : Ideal.div x (Ideal.ofBits .f32 0x41A80000#32) = x * ((21⁻¹ : ℝ) : EReal) := by
  rw [show Ideal.ofBits .f32 0x41A80000#32 = ((21 : ℝ) : EReal) by simp [Ideal.ofBits, Ideal.ieee, -EReal.coe_mul]; norm_num,
    Ideal.div_coe (by norm_num), one_div]

/-- Multiplying by the 0/1 value of a comparison keeps the number or gives zero, infinities included. -/
theorem mul_mask (x : EReal) (b : BitVec 1) :
    x * FloatOps.uitofp (F := Ideal) .f32 b = Scalar.select b x 0 := by
  rcases BitVec.eq_zero_or_eq_one b with rfl | rfl
  · show x * ((((0#1 : BitVec 1).toNat : ℝ)) : EReal) = 0
    simp
  · show x * ((((1#1 : BitVec 1).toNat : ℝ)) : EReal) = x
    simp

/-- The average of one body part's features over its vertices, at frame `t` and channel `g`. -/
def partAt {K : ℕ} (inv : ℝ) (An : Fin K → Fin K → EReal) (h0 : Fin 256 → Fin K → Fin 256 → EReal)
    (Wt : Fin 9 → Fin 256 → Fin 256 → EReal) (W2 : Fin 256 → Fin 256 → EReal) (t g : Fin 256) : EReal :=
  mixSum An (fun k => feat h0 Wt W2 t k g) * (inv : EReal)

/-- A frame's value is kept when the frame is before the clip's length, and is zero otherwise. -/
def maskAt (len : BitVec 32) (p : Fin 256 → EReal) (t : Fin 256) : EReal :=
  Scalar.select (IntOp.cmpi .slt (BitVec.ofNat 32 t.val) len) (p t) 0

/-- The average over the valid frames. -/
def poolAt (len : BitVec 32) (p : Fin 256 → EReal) : EReal :=
  Ideal.div (∑ t : Fin 256, maskAt len p t) (max 1 (FloatOps.sitofp (F := Ideal) .f32 len))

/-- The nine taps written out, added in the order of both programs. -/
theorem conv_eq {K : ℕ} (h0 : Fin 256 → Fin K → Fin 256 → EReal) (Wt : Fin 9 → Fin 256 → Fin 256 → EReal)
    (t : Fin 256) (k : Fin K) (g : Fin 256) :
    tapAt h0 Wt t k g 0 + tapAt h0 Wt t k g 1 + tapAt h0 Wt t k g 2 + tapAt h0 Wt t k g 3 + tapAt h0 Wt t k g 4
      + tapAt h0 Wt t k g 5 + tapAt h0 Wt t k g 6 + tapAt h0 Wt t k g 7 + tapAt h0 Wt t k g 8 = conv h0 Wt t k g := by
  unfold conv
  simp only [Fin.sum_univ_succ, Fin.sum_univ_zero, add_zero, ← add_assoc]
  rfl

/-- The word of a trip's counter. -/
theorem trip_word (k : ℕ) (h : k < 33) : (Scalar.indexCast (Scf.iv 0#32 1#32 k)).toNat = k := by
  have : ∀ k : Fin 33, (Scalar.indexCast (Scf.iv 0#32 1#32 k.val)).toNat = k.val := by decide
  exact this ⟨k, h⟩

end Cert.Proof

end
-- ==== Proof.Rows.lean ====
/- The arrays a region leaves, for any number of vertices, and one call's outputs as rows of them. -/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.Proof.Ker

open Idealize.ShloMosaic Idealize.ShloMosaic.TcCoe Idealize.SL.Sem
open Cert.KernelIdeal Cert.KernelIdeal.Gen

variable {K : ℕ} (q : ℝ)

/-- One channel of a part's features, over the frames of clip `b`, from the arrays a region reads. -/
def partArr (p : FVec Ideal ⟨4, ![64, 3, 256, K]⟩ .f32) (aT a : FVec Ideal ⟨2, ![K, K]⟩ .f32) (w1 : FVec Ideal S3x256 .f32)
    (wt : FVec Ideal S9x256x256 .bf16) (w2 : FVec Ideal S256x256 .bf16) (b : Fin 64) (g t : Fin 256) : EReal :=
  partAt q (fun k j => a (ix2 k j))
    (layer1' (fun t k c => p (ix4 b c t k)) (fun k j => aT (ix2 j k)) (fun c h => w1 (ix2 c h)))
    (fun d h g => wt (ix3 d h g)) (fun h g => w2 (ix2 h g)) t g

/-- The masked sequence a region leaves, from the arrays it reads. -/
def seqArr (p : FVec Ideal ⟨4, ![64, 3, 256, K]⟩ .f32) (aT a : FVec Ideal ⟨2, ![K, K]⟩ .f32) (w1 : FVec Ideal S3x256 .f32)
    (wt : FVec Ideal S9x256x256 .bf16) (w2 : FVec Ideal S256x256 .bf16) (len : IVec S64 32) : FVec Ideal S64x256x256 .f32 := fun y =>
  maskAt (len (ix1 (y 0))) (partArr q p aT a w1 wt w2 (y 0) (y 2)) (y 1)

/-- The pooled features a region leaves, from the arrays it reads. -/
def poolArr (p : FVec Ideal ⟨4, ![64, 3, 256, K]⟩ .f32) (aT a : FVec Ideal ⟨2, ![K, K]⟩ .f32) (w1 : FVec Ideal S3x256 .f32)
    (wt : FVec Ideal S9x256x256 .bf16) (w2 : FVec Ideal S256x256 .bf16) (len : IVec S64 32) : FVec Ideal S64x1x256 .f32 := fun y =>
  poolAt (len (ix1 (y 0))) (partArr q p aT a w1 wt w2 (y 0) (y 2))

variable {q}

/-- The sequence of one call, its blocks read from the arrays, is one row of the region's sequence. -/
theorem seqArr_row {p : FVec Ideal ⟨4, ![64, 3, 256, K]⟩ .f32} {aT a : FVec Ideal ⟨2, ![K, K]⟩ .f32}
    {w1 : FVec Ideal S3x256 .f32} {wt : FVec Ideal S9x256x256 .bf16} {w2 : FVec Ideal S256x256 .bf16} {len : IVec S64 32} {t i : Fin 64}
    {x0 : FVec Ideal ⟨4, ![1, 3, 256, K]⟩ .f32} {x1 x2 : FVec Ideal ⟨2, ![K, K]⟩ .f32} {x3 : FVec Ideal S3x256 .f32}
    {x4 : FVec Ideal S9x256x256 .bf16} {x5 : FVec Ideal S256x256 .bf16} {x6 : IVec S64 32} (hi : i.val = t.val)
    (h : (∀ x s k, x0 (ix4 0 x s k) = p (ix4 t x s k)) ∧ x1 = aT ∧ x2 = a ∧ x3 = w1 ∧ x4 = wt ∧ x5 = w2 ∧ x6 = len) (s g : Fin 256) :
    maskAt (x6 (ix1 i)) (fun s => partAt q (fun k j => x2 (ix2 k j))
        (layer1' (fun t k c => x0 (ix4 0 c t k)) (fun k j => x1 (ix2 j k)) (fun c h => x3 (ix2 c h)))
        (fun d h g => x4 (ix3 d h g)) (fun h g => x5 (ix2 h g)) s g) s
      = seqArr q p aT a w1 wt w2 len (ix3 t s g) := by
  obtain ⟨h0, rfl, rfl, rfl, rfl, rfl, rfl⟩ := h
  obtain rfl := Fin.ext hi
  simp only [h0]
  rfl

/-- The pooled features of one call, its blocks read from the arrays, are one row of the region's pooled features. -/
theorem poolArr_row {p : FVec Ideal ⟨4, ![64, 3, 256, K]⟩ .f32} {aT a : FVec Ideal ⟨2, ![K, K]⟩ .f32}
    {w1 : FVec Ideal S3x256 .f32} {wt : FVec Ideal S9x256x256 .bf16} {w2 : FVec Ideal S256x256 .bf16} {len : IVec S64 32} {t i : Fin 64}
    {x0 : FVec Ideal ⟨4, ![1, 3, 256, K]⟩ .f32} {x1 x2 : FVec Ideal ⟨2, ![K, K]⟩ .f32} {x3 : FVec Ideal S3x256 .f32}
    {x4 : FVec Ideal S9x256x256 .bf16} {x5 : FVec Ideal S256x256 .bf16} {x6 : IVec S64 32} (hi : i.val = t.val)
    (h : (∀ x s k, x0 (ix4 0 x s k) = p (ix4 t x s k)) ∧ x1 = aT ∧ x2 = a ∧ x3 = w1 ∧ x4 = wt ∧ x5 = w2 ∧ x6 = len) (g : Fin 256) :
    poolAt (x6 (ix1 i)) (fun s => partAt q (fun k j => x2 (ix2 k j))
        (layer1' (fun t k c => x0 (ix4 0 c t k)) (fun k j => x1 (ix2 j k)) (fun c h => x3 (ix2 c h)))
        (fun d h g => x4 (ix3 d h g)) (fun h g => x5 (ix2 h g)) s g)
      = poolArr q p aT a w1 wt w2 len (ix3 t 0 g) := by
  obtain ⟨h0, rfl, rfl, rfl, rfl, rfl, rfl⟩ := h
  obtain rfl := Fin.ext hi
  simp only [h0]
  rfl

/-- An index into a sequence block. -/
theorem idx_seq (y : S1x256x256.Idx) : ∃ s g : Fin 256, y = ix3 0 s g :=
  ⟨y 1, y 2, by funext a; fin_cases a; exacts [Fin.ext (Nat.lt_one_iff.mp (y 0).isLt), rfl, rfl]⟩

/-- An index into a block of pooled features. -/
theorem idx_pool (y : S1x1x256.Idx) : ∃ g : Fin 256, y = ix3 0 0 g :=
  ⟨y 2, by funext a; fin_cases a; exacts [Fin.ext (Nat.lt_one_iff.mp (y 0).isLt), Fin.ext (Nat.lt_one_iff.mp (y 1).isLt), rfl]⟩

end Cert.Proof.Ker
end
end
-- ==== Proof.Row33.lean ====
/- The padded scratch of a 33-vertex call after its first phase. -/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.Proof.Ker

open Idealize.ShloMosaic Idealize.ShloMosaic.TcCoe Idealize.SL.Sem
open Cert.KernelIdeal Cert.KernelIdeal.Gen

set_option maxHeartbeats 4000000 in
/-- After the first phase of a 33-vertex call the padded scratch holds, four frames in, the first graph layer, and
    zero in the four frames before and after it. -/
theorem hp33 (c : Dev nD) (arg1 : Memref sig .tc .vmem S1x3x256x33 .f32) (harg1 : arg1.IsWhole) (arg2 : Memref sig .tc .vmem S33x33 .f32) (harg2 : arg2.IsWhole)
    (arg4 : Memref sig .tc .vmem S3x256 .f32) (harg4 : arg4.IsWhole)
    (x0 : Vec Ideal S1x3x256x33 .f32) (x1 : Vec Ideal S33x33 .f32) (x3 : Vec Ideal S3x256 .f32) (y : S33x264x256.Idx) :
    View.canon (kernelRun0_A.sl.HS0_35 c arg1 harg1 arg2 harg2 arg4 harg4 x0 x1 x3) y
      = padRow (fun t => layer1' (fun t k c => x0 (ix4 0 c t k)) (fun k j => x1 (ix2 j k)) (fun c h => x3 (ix2 c h)) t (y 0) (y 2)) (y 1).val := by
  have hc := View.cover_of_tiledBy (kernelRun0_A.sl.HS0_35 c arg1 harg1 arg2 harg2 arg4 harg4 x0 x1 x3) ![1, 4, 256] (by sl_kernel_rfl) y
  revert hc
  unfold kernelRun0_A.sl.HS0_35
  intro hc
  canon_tiles x h using hc
  all_goals
    clear hc
    sl_unfold_words
    simp only [View.readAt_eq_ld, harg1.read_unread, harg2.read_unread, harg4.read_unread]
    idx_vars x
    idx_vars y
    obtain ⟨y0, hy0⟩ := y0
    obtain rfl : y2 = x2 := Fin.ext h2
    first
      | refine Eq.trans ?_ (padRow_row _ _ x1 h1).symm
        rw [show x0.val = 0 from Nat.lt_one_iff.mp x0.isLt] at h0
        dsimp only at h0
        subst h0
        pointwise [layer1',
          k0_pay14, k0_pay15, k0_pay16, k0_pay17, k0_pay18, k0_pay19, k0_pay20, k0_pay21, k0_pay22, k0_pay23,
          k0_pay24, k0_pay25, k0_pay26, k0_pay27, k0_pay28, k0_pay29, k0_pay30, k0_pay31, k0_pay32, k0_pay33,
          k0_pay34, k0_pay35, k0_pay36, k0_pay37, k0_pay38, k0_pay39, k0_pay40, k0_pay41, k0_pay42, k0_pay43,
          k0_pay44, k0_pay45, k0_pay46, k0_pay47, k0_pay48, k0_pay49, k0_pay50, k0_pay51, k0_pay52, k0_pay53,
          k0_pay54, k0_pay55, k0_pay56, k0_pay57, k0_pay58, k0_pay59, k0_pay60, k0_pay61, k0_pay62, k0_pay63,
          k0_pay64, k0_pay65, k0_pay66, k0_pay67, k0_pay68, k0_pay69, k0_pay70, k0_pay71, k0_pay72, k0_pay73,
          k0_pay74, k0_pay75, k0_pay76, k0_pay77, k0_pay78]
      | have hx : x1.val < 4 := x1.isLt
        have hs : y1.val < 4 ∨ 260 ≤ y1.val := by omega
        refine Eq.trans ?_ (padRow_pad _ _ hs).symm
        pointwise [k0_pay17, k0_pay18]

end Cert.Proof.Ker
end
-- ==== Proof.Call33.lean ====
/- What one call for 33 vertices leaves in its two output blocks: its taps, its mixing loop, its mask and its pooling. -/
module

public import proofs.«01_k».proof.Proof.Gen.KernelIdeal.Frame
public import proofs.«01_k».proof.Proof.Spec
public import proofs.«01_k».proof.Proof.Row33
public import Idealize.ShloMosaic.Lib.Pipeline.ValueKit

@[expose] public section

set_option maxRecDepth 16384

noncomputable section

namespace Cert.Proof.Ker

open Idealize.ShloMosaic Idealize.ShloMosaic.TcCoe Idealize.SL.Sem
open Cert.KernelIdeal Cert.KernelIdeal.Gen

/-- A later tap adds its product to what the accumulator holds. -/
theorem tap33 (a : Vec Ideal S33x256x256 .bf16) (b : Vec Ideal S1x256x256 .bf16) (s : Vec Ideal S33x256x256 .f32)
    (k : Fin 33) (t g : Fin 256) :
    k0_pay80 a b s (ix3 k t g) = s (ix3 k t g) + ∑ h : Fin 256, a (ix3 k t h) * b (ix3 0 h g) := by
  pointwise [k0_pay80]

/-- The first tap writes its product. -/
theorem tap33_first (a : Vec Ideal S33x256x256 .bf16) (b : Vec Ideal S1x256x256 .bf16) (k : Fin 33) (t g : Fin 256) :
    k0_pay79 a b (ix3 k t g) = ∑ h : Fin 256, a (ix3 k t h) * b (ix3 0 h g) := by
  pointwise [k0_pay79]

section
variable (c : Dev nD) (i : grid0.Coords) (arg1 : Memref sig .tc .vmem S1x3x256x33 .f32) (harg1 : arg1.IsWhole)
    (arg2 : Memref sig .tc .vmem S33x33 .f32) (harg2 : arg2.IsWhole) (arg3 : Memref sig .tc .smem S33x33 .f32) (harg3 : arg3.IsWhole)
    (arg4 : Memref sig .tc .vmem S3x256 .f32) (harg4 : arg4.IsWhole) (arg5 : Memref sig .tc .vmem S9x256x256 .bf16) (harg5 : arg5.IsWhole)
    (arg6 : Memref sig .tc .vmem S256x256 .bf16) (harg6 : arg6.IsWhole) (arg7 : Memref sig .tc .smem S64 .i32) (harg7 : arg7.IsWhole)
    (arg8 : Memref sig .tc .vmem S1x256x256 .f32) (harg8 : arg8.IsWhole) (arg9 : Memref sig .tc .vmem S1x1x256 .f32) (harg9 : arg9.IsWhole)
    (arg10 : Memref sig .tc .vmem S33x264x256 .bf16) (harg10 : arg10.IsWhole)
    (arg11 : Memref sig .tc .vmem S33x256x256 .f32) (harg11 : arg11.IsWhole)
    (arg12 : Memref sig .tc .vmem S256x256 .f32) (harg12 : arg12.IsWhole)
    (x0 : Vec Ideal S1x3x256x33 .f32) (x1 : Vec Ideal S33x33 .f32) (x2 : Vec Ideal S33x33 .f32) (x3 : Vec Ideal S3x256 .f32) (x4 : Vec Ideal S9x256x256 .bf16)
    (x5 : Vec Ideal S256x256 .bf16) (x6 : Vec Ideal S64 .i32)

/-- The first layer of a 33-vertex call, from its operands. -/
abbrev h33 : Fin 256 → Fin 33 → Fin 256 → EReal :=
  layer1' (fun t k c => x0 (ix4 0 c t k)) (fun k j => x1 (ix2 j k)) (fun c h => x3 (ix2 c h))

/-- The frames a tap loads are the padded scratch from frame `d` on. -/
theorem hp33_load (d : ℕ) (inb : ∀ ax, (![0, d, 0] : Fin 3 → ℕ) ax + S33x256x256.size ax ≤ S33x264x256.size ax)
    (k : Fin 33) (t h : Fin 256) :
    arg10.view.readCov (kernelRun0_A.sl.HS0_35 c arg1 harg1 arg2 harg2 arg4 harg4 x0 x1 x3)
        (Rect.unit (s := S33x264x256) ![0, d, 0] S33x256x256.size inb).toLoadRect (ix3 k t h)
      = padRow (fun s => h33 x0 x1 x3 s k h) (d + t.val) := by
  rw [View.readCov_eq_canon']
  dsimp only
  rw [hp33]
  have e0 : ((Rect.unit (s := S33x264x256) ![0, d, 0] S33x256x256.size inb).toLoadRect.idx (ix3 k t h)) 0 = k := Fin.ext (by simp [LoadRect.idx])
  have e1 : (((Rect.unit (s := S33x264x256) ![0, d, 0] S33x256x256.size inb).toLoadRect.idx (ix3 k t h)) 1).val = d + t.val := by simp [LoadRect.idx]
  have e2 : ((Rect.unit (s := S33x264x256) ![0, d, 0] S33x256x256.size inb).toLoadRect.idx (ix3 k t h)) 2 = h := Fin.ext (by simp [LoadRect.idx])
  rw [e0, e1, e2]

/-- The weights a tap loads. -/
theorem w33 (d : Fin 9) (inb : ∀ ax, (![d.val, 0, 0] : Fin 3 → ℕ) ax + S1x256x256.size ax ≤ S9x256x256.size ax)
    (h g : Fin 256) :
    arg5.view.readAt (Elt Ideal) (Rect.unit (s := S9x256x256) ![d.val, 0, 0] S1x256x256.size inb).toLoadRect (harg5.unread x4) (ix3 0 h g)
      = x4 (ix3 d h g) := by
  rw [View.readAt_eq_ld, harg5.read_unread]
  pointwise

/-- The store of tap `d`, at a position: what the accumulator held there, plus the tap. -/
theorem step33 (d : Fin 9) (inb : ∀ ax, (![0, d.val, 0] : Fin 3 → ℕ) ax + S33x256x256.size ax ≤ S33x264x256.size ax)
    (inb' : ∀ ax, (![d.val, 0, 0] : Fin 3 → ℕ) ax + S1x256x256.size ax ≤ S9x256x256.size ax)
    (s s' : Vec Ideal S33x256x256 .f32)
    (hs : s' = k0_pay80 (arg10.view.readCov (kernelRun0_A.sl.HS0_35 c arg1 harg1 arg2 harg2 arg4 harg4 x0 x1 x3)
          (Rect.unit (s := S33x264x256) ![0, d.val, 0] S33x256x256.size inb).toLoadRect)
        (arg5.view.readAt (Elt Ideal) (Rect.unit (s := S9x256x256) ![d.val, 0, 0] S1x256x256.size inb').toLoadRect (harg5.unread x4)) s)
    (k : Fin 33) (t g : Fin 256) :
    s' (ix3 k t g) = s (ix3 k t g) + tapAt (h33 x0 x1 x3) (fun d h g => x4 (ix3 d h g)) t k g d := by
  subst hs
  rw [tap33, tapAt]
  congr 1
  exact Finset.sum_congr rfl fun h _ => congrArg₂ (· * ·) (hp33_load ..) (w33 ..)

set_option maxHeartbeats 400000 in
/-- After the nine taps the accumulator holds the convolution. -/
theorem conv33 (k : Fin 33) (t g : Fin 256) :
    kernelRun0_A.sl.v879 c arg1 harg1 arg2 harg2 arg4 harg4 arg5 harg5 arg10 arg11 x0 x1 x3 x4 (ix3 k t g)
      = conv (h33 x0 x1 x3) (fun d h g => x4 (ix3 d h g)) t k g := by
  have r0 : kernelRun0_A.sl.v796 c arg1 harg1 arg2 harg2 arg4 harg4 arg5 harg5 arg10 arg11 x0 x1 x3 x4
      = k0_pay79 (kernelRun0_A.sl.v782 c arg1 harg1 arg2 harg2 arg4 harg4 arg10 x0 x1 x3)
        (arg5.view.readAt (Elt Ideal) (Rect.unit (s := S9x256x256) ![0, 0, 0] S1x256x256.size (by decide)).toLoadRect (harg5.unread x4)) :=
    View.readCov_cons_toLoadRect ..
  have l0 : kernelRun0_A.sl.v796 c arg1 harg1 arg2 harg2 arg4 harg4 arg5 harg5 arg10 arg11 x0 x1 x3 x4 (ix3 k t g)
      = tapAt (h33 x0 x1 x3) (fun d h g => x4 (ix3 d h g)) t k g 0 :=
    (congrFun r0 _).trans ((tap33_first _ _ k t g).trans
      (Finset.sum_congr rfl fun h _ => congrArg₂ (· * ·) (hp33_load ..) (w33 arg5 harg5 x4 0 _ h g)))
  have s1 := step33 c arg1 harg1 arg2 harg2 arg4 harg4 arg5 harg5 arg10 x0 x1 x3 x4 1 (by decide) (by decide)
    (kernelRun0_A.sl.v796 c arg1 harg1 arg2 harg2 arg4 harg4 arg5 harg5 arg10 arg11 x0 x1 x3 x4)
    (kernelRun0_A.sl.v807 c arg1 harg1 arg2 harg2 arg4 harg4 arg5 harg5 arg10 arg11 x0 x1 x3 x4) (View.readCov_cons_toLoadRect ..) k t g
  have s2 := step33 c arg1 harg1 arg2 harg2 arg4 harg4 arg5 harg5 arg10 x0 x1 x3 x4 2 (by decide) (by decide)
    (kernelRun0_A.sl.v807 c arg1 harg1 arg2 harg2 arg4 harg4 arg5 harg5 arg10 arg11 x0 x1 x3 x4)
    (kernelRun0_A.sl.v818 c arg1 harg1 arg2 harg2 arg4 harg4 arg5 harg5 arg10 arg11 x0 x1 x3 x4) (View.readCov_cons_toLoadRect ..) k t g
  have s3 := step33 c arg1 harg1 arg2 harg2 arg4 harg4 arg5 harg5 arg10 x0 x1 x3 x4 3 (by decide) (by decide)
    (kernelRun0_A.sl.v818 c arg1 harg1 arg2 harg2 arg4 harg4 arg5 harg5 arg10 arg11 x0 x1 x3 x4)
    (kernelRun0_A.sl.v829 c arg1 harg1 arg2 harg2 arg4 harg4 arg5 harg5 arg10 arg11 x0 x1 x3 x4) (View.readCov_cons_toLoadRect ..) k t g
  have s4 := step33 c arg1 harg1 arg2 harg2 arg4 harg4 arg5 harg5 arg10 x0 x1 x3 x4 4 (by decide) (by decide)
    (kernelRun0_A.sl.v829 c arg1 harg1 arg2 harg2 arg4 harg4 arg5 harg5 arg10 arg11 x0 x1 x3 x4)
    (kernelRun0_A.sl.v840 c arg1 harg1 arg2 harg2 arg4 harg4 arg5 harg5 arg10 arg11 x0 x1 x3 x4) (View.readCov_cons_toLoadRect ..) k t g
  have s5 := step33 c arg1 harg1 arg2 harg2 arg4 harg4 arg5 harg5 arg10 x0 x1 x3 x4 5 (by decide) (by decide)
    (kernelRun0_A.sl.v840 c arg1 harg1 arg2 harg2 arg4 harg4 arg5 harg5 arg10 arg11 x0 x1 x3 x4)
    (kernelRun0_A.sl.v851 c arg1 harg1 arg2 harg2 arg4 harg4 arg5 harg5 arg10 arg11 x0 x1 x3 x4) (View.readCov_cons_toLoadRect ..) k t g
  have s6 := step33 c arg1 harg1 arg2 harg2 arg4 harg4 arg5 harg5 arg10 x0 x1 x3 x4 6 (by decide) (by decide)
    (kernelRun0_A.sl.v851 c arg1 harg1 arg2 harg2 arg4 harg4 arg5 harg5 arg10 arg11 x0 x1 x3 x4)
    (kernelRun0_A.sl.v862 c arg1 harg1 arg2 harg2 arg4 harg4 arg5 harg5 arg10 arg11 x0 x1 x3 x4) (View.readCov_cons_toLoadRect ..) k t g
  have s7 := step33 c arg1 harg1 arg2 harg2 arg4 harg4 arg5 harg5 arg10 x0 x1 x3 x4 7 (by decide) (by decide)
    (kernelRun0_A.sl.v862 c arg1 harg1 arg2 harg2 arg4 harg4 arg5 harg5 arg10 arg11 x0 x1 x3 x4)
    (kernelRun0_A.sl.v873 c arg1 harg1 arg2 harg2 arg4 harg4 arg5 harg5 arg10 arg11 x0 x1 x3 x4) (View.readCov_cons_toLoadRect ..) k t g
  have s8 := step33 c arg1 harg1 arg2 harg2 arg4 harg4 arg5 harg5 arg10 x0 x1 x3 x4 8 (by decide) (by decide)
    (kernelRun0_A.sl.v873 c arg1 harg1 arg2 harg2 arg4 harg4 arg5 harg5 arg10 arg11 x0 x1 x3 x4)
    (kernelRun0_A.sl.v879 c arg1 harg1 arg2 harg2 arg4 harg4 arg5 harg5 arg10 arg11 x0 x1 x3 x4) (View.readCov_cons_toLoadRect ..) k t g
  rw [s8, s7, s6, s5, s4, s3, s2, s1, l0]
  exact conv_eq _ _ _ _ _

/-- The accumulator's last contents: the rectified convolution times `W2`. -/
theorem feat33 (k : Fin 33) (t g : Fin 256) :
    k0_pay91 (kernelRun0_A.sl.v879 c arg1 harg1 arg2 harg2 arg4 harg4 arg5 harg5 arg10 arg11 x0 x1 x3 x4)
        (arg6.view.readAt (Elt Ideal) (Rect.unit (s := S256x256) ![0, 0] S256x256.size inb_S256x256_S256x256_0_0).toLoadRect (harg6.unread x5)) (ix3 k t g)
      = feat (h33 x0 x1 x3) (fun d h g => x4 (ix3 d h g)) (fun h g => x5 (ix2 h g)) t k g := by
  rw [View.readAt_eq_ld, harg6.read_unread]
  pointwise [k0_pay91, feat]
  simp only [conv33]

/-- What a trip adds, as the loop's body spells it, from the contents of its two operands. -/
def trip33 (X3 : BufTy.Contents (Elt Ideal) arg3.view.ty) (X11 : BufTy.Contents (Elt Ideal) arg11.view.ty) (k : ℕ)
    (inb3 : ∀ (j : Fin 33) (ax), (![(Scalar.indexCast (Scf.iv 0#32 1#32 k)).toNat, j.val] : Fin 2 → ℕ) ax + (![1, 1] : Fin 2 → ℕ) ax ≤ S33x33.size ax)
    (inb11 : ∀ (j : Fin 33) (ax), (![j.val, 0, 0] : Fin 3 → ℕ) ax + (![1, 256, 256] : Fin 3 → ℕ) ax ≤ S33x256x256.size ax) (t g : Fin 256) : EReal :=
  max (∑ j : Fin 33,
    arg3.view.readAt (Elt Ideal) (Rect.unit (s := S33x33) ![(Scalar.indexCast (Scf.iv 0#32 1#32 k)).toNat, j.val] ![1, 1] (inb3 j)).toLoadRect X3 (Shape.Idx.first (s := S1x1) (by decide))
    * arg11.view.readAt (Elt Ideal) (Rect.unit (s := S33x256x256) ![j.val, 0, 0] ![1, 256, 256] (inb11 j)).toLoadRect X11 (ix3 0 t g)) 0

set_option maxHeartbeats 1000000 in
/-- A trip stores, over the whole scratch, what the scratch held plus the trip's addend. -/
theorem tripL33 (X3 : BufTy.Contents (Elt Ideal) arg3.view.ty) (X11 : BufTy.Contents (Elt Ideal) arg11.view.ty) (k : Fin k0_t1_loop.trips)
    (f : BufTy.Contents (Elt Ideal) arg12.view.ty) (v896 : BitVec 32) (v869 : FVec Ideal S8448x256 .bf16) (inb3) (inb11) :
    ∃ w, tripL_k0_t1 (F := Ideal) Variants.none c none i arg1 harg1 arg2 harg2 arg3 harg3 arg4 harg4 arg5 harg5 arg6 harg6 arg7 harg7 arg8 harg8 arg9 harg9 arg10 harg10 arg11 harg11 arg12 harg12 v896 v869 X3 X11 k f
        = [⟨Rect.unit (s := S256x256) ![0, 0] S256x256.size inb_S256x256_S256x256_0_0, w⟩]
      ∧ ∀ t g, w (ix2 t g) = arg12.view.readAt (Elt Ideal) (Rect.unit (s := S256x256) ![0, 0] S256x256.size inb_S256x256_S256x256_0_0).toLoadRect f (ix2 t g)
          + trip33 arg3 arg11 X3 X11 k.val inb3 inb11 t g := by
  refine ⟨_, by unfold tripL_k0_t1 trip_k0_t1; rfl, fun t g => ?_⟩
  sl_unfold_words
  pointwise [k0_pay93]
  unfold trip33
  simp only [Fin.sum_univ_castSucc, Fin.sum_univ_zero, zero_add, Fin.val_castSucc, Fin.val_last]

/-- A trip's addend at the contents the loop starts with: one vertex of the mixing. -/
theorem trip33_eq (k : Fin 33) (inb3) (inb11) (t g : Fin 256) :
    trip33 arg3 arg11 (harg3.unread x2)
        (arg11.view.writes (Elt Ideal) arg11.view.junk (kernelRun0_A.sl.HS1_10 c arg1 harg1 arg2 harg2 arg4 harg4 arg5 harg5 arg6 harg6 arg10 arg11 x0 x1 x3 x4 x5)) k.val inb3 inb11 t g
      = max (∑ j : Fin 33, feat (h33 x0 x1 x3) (fun d h g => x4 (ix3 d h g)) (fun h g => x5 (ix2 h g)) t j g * x2 (ix2 k j)) 0 := by
  unfold trip33
  congr 1
  refine Finset.sum_congr rfl fun j _ => ?_
  rw [mul_comm, ← feat33 c arg1 harg1 arg2 harg2 arg4 harg4 arg5 harg5 arg6 harg6 arg10 arg11 x0 x1 x3 x4 x5 j t g]
  refine congrArg₂ (· * ·) ?_ ?_
  · rw [View.readAt_writes_junk_eq_canon]
    unfold kernelRun0_A.sl.HS1_10
    rw [View.canon_cons_unit_zero (by decide)]
    refine congrArg _ (funext fun a => ?_)
    fin_cases a <;> exact Fin.ext (by simp [LoadRect.idx])
  · rw [View.readAt_eq_ld, harg3.read_unread]
    refine congrArg x2 (funext fun a => ?_)
    fin_cases a <;> exact Fin.ext (by simp [LoadRect.idx, trip_word k.val (by omega)])

set_option maxHeartbeats 1000000 in
/-- Before trip `n` the sum's scratch holds the addends of the trips before it. -/
theorem loop33 (t g : Fin 256) : ∀ (n : ℕ) (h : n ≤ 33),
    arg12.view.readCov (pb_k0_t1 (F := Ideal) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) (kernelRun0_A.sl.r_35 c arg1 harg1 arg2 harg2 arg4 harg4 arg10 x0 x1 x3) (harg3.unread x2)
          (arg11.view.writes (Elt Ideal) arg11.view.junk (kernelRun0_A.sl.HS1_10 c arg1 harg1 arg2 harg2 arg4 harg4 arg5 harg5 arg6 harg6 arg10 arg11 x0 x1 x3 x4 x5))
          (arg12.view.writes (Elt Ideal) arg12.view.junk (kernelRun0_A.sl.HS2_1 (F := Ideal))) n ++ kernelRun0_A.sl.HS2_1 (F := Ideal))
        (Rect.unit (s := S256x256) ![0, 0] S256x256.size inb_S256x256_S256x256_0_0).toLoadRect (ix2 t g)
      = ∑ k : Fin n, max (∑ j : Fin 33, feat (h33 x0 x1 x3) (fun d h g => x4 (ix3 d h g)) (fun h g => x5 (ix2 h g)) t j g * x2 (ix2 (Fin.castLE h k) j)) 0
  | 0, _ => by
    rw [pb_k0_t1, List.nil_append, Fin.sum_univ_zero]
    unfold kernelRun0_A.sl.HS2_1
    rw [View.readCov_cons_toLoadRect]
    pointwise [k0_pay92]
  | n + 1, h => by
    have inb3 : ∀ (j : Fin 33) (ax), (![(Scalar.indexCast (Scf.iv 0#32 1#32 n)).toNat, j.val] : Fin 2 → ℕ) ax + (![1, 1] : Fin 2 → ℕ) ax ≤ S33x33.size ax := by
      rw [trip_word n (by omega)]
      intro j ax
      fin_cases ax <;> simp [S33x33] <;> omega
    have inb11 : ∀ (j : Fin 33) (ax), (![j.val, 0, 0] : Fin 3 → ℕ) ax + (![1, 256, 256] : Fin 3 → ℕ) ax ≤ S33x256x256.size ax := by
      intro j ax
      fin_cases ax <;> simp [S33x256x256] <;> omega
    obtain ⟨w, hw, hv⟩ := tripL33 c i arg1 harg1 arg2 harg2 arg3 harg3 arg4 harg4 arg5 harg5 arg6 harg6 arg7 harg7 arg8 harg8 arg9 harg9 arg10 harg10 arg11 harg11 arg12 harg12 (harg3.unread x2)
          (arg11.view.writes (Elt Ideal) arg11.view.junk (kernelRun0_A.sl.HS1_10 c arg1 harg1 arg2 harg2 arg4 harg4 arg5 harg5 arg6 harg6 arg10 arg11 x0 x1 x3 x4 x5)) ⟨n, h⟩
          (arg12.view.writes (Elt Ideal) (arg12.view.writes (Elt Ideal) arg12.view.junk (kernelRun0_A.sl.HS2_1 (F := Ideal)))
            (pb_k0_t1 (F := Ideal) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) (kernelRun0_A.sl.r_35 c arg1 harg1 arg2 harg2 arg4 harg4 arg10 x0 x1 x3) (harg3.unread x2)
              (arg11.view.writes (Elt Ideal) arg11.view.junk (kernelRun0_A.sl.HS1_10 c arg1 harg1 arg2 harg2 arg4 harg4 arg5 harg5 arg6 harg6 arg10 arg11 x0 x1 x3 x4 x5))
              (arg12.view.writes (Elt Ideal) arg12.view.junk (kernelRun0_A.sl.HS2_1 (F := Ideal))) n)) _ _ inb3 inb11
    rw [pb_k0_t1_succ Variants.none c none i arg1 harg1 arg2 harg2 arg3 harg3 arg4 harg4 arg5 harg5 arg6 harg6 arg7 harg7 arg8 harg8 arg9 harg9 arg10 harg10 arg11 harg11 arg12 harg12 _ _ _ _ _ ⟨n, h⟩, hw]
    rw [List.cons_append, List.nil_append, List.cons_append, View.readCov_cons_toLoadRect, hv, Fin.sum_univ_castSucc,
      ← View.writes_append]
    refine congrArg₂ (· + ·) (loop33 t g n (by omega)) ?_
    exact trip33_eq c arg1 harg1 arg2 harg2 arg3 harg3 arg4 harg4 arg5 harg5 arg6 harg6 arg10 arg11 x0 x1 x2 x3 x4 x5 ⟨n, h⟩ inb3 inb11 t g

/-- The clip length the call reads. -/
theorem len33 : kernelRun0_A.sl.r_36 (F := Ideal) c i arg7 harg7 x6 = x6 (ix1 (i 0)) := by
  unfold kernelRun0_A.sl.r_36
  rw [View.readAt_eq_ld, harg7.read_unread]
  refine congrArg x6 (funext fun a => ?_)
  fin_cases a
  refine Fin.ext ?_
  have h : (i 0).val < 64 := (i 0).isLt
  simp [LoadRect.idx, k0_off34, Scalar.indexCast]
  omega

/-- The sum over the vertices that a call leaves in its scratch. -/
theorem sum33 (t g : Fin 256) :
    kernelRun0_A.sl.v901 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 (ix2 t g)
      = mixSum (fun k j => x2 (ix2 k j)) (fun k => feat (h33 x0 x1 x3) (fun d h g => x4 (ix3 d h g)) (fun h g => x5 (ix2 h g)) t k g) :=
  loop33 c i arg1 harg1 arg2 harg2 arg3 harg3 arg4 harg4 arg5 harg5 arg6 harg6 arg7 harg7 arg8 harg8 arg9 harg9 arg10 harg10 arg11 harg11 arg12 harg12 x0 x1 x2 x3 x4 x5 t g 33 le_rfl

/-- The named constant of the 33-vertex calls is the reciprocal of 33. -/
theorem named33 : Named.named (F := Ideal) (φ := .f32) κ "inv33" 0x3CF83E10#32 = ((33⁻¹ : ℝ) : EReal) :=
  (IdealRules.named_const.ideal_named_scalar _ _ _ _ rfl).trans (by norm_num)

/-- The masked sequence of one call. -/
theorem seq33 (t g : Fin 256) :
    out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix3 0 t g)
      = maskAt (x6 (ix1 (i 0))) (fun t => partAt (33⁻¹ : ℝ) (fun k j => x2 (ix2 k j)) (h33 x0 x1 x3)
          (fun d h g => x4 (ix3 d h g)) (fun h g => x5 (ix2 h g)) t g) t := by
  unfold out0_A_7
  rw [View.read_writes_junk_eq_canon]
  unfold kernelRun0_A
  dsimp only
  rw [View.canon_unit_zero (by decide)]
  unfold kernelRun0_A.sl.r_37
  rw [len33]
  pointwise [k0_pay2, k0_pay1, k0_pay94, maskAt, partAt]
  rw [sum33, named33]

/-- The pooled features of one call. -/
theorem pool33 (g : Fin 256) :
    out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix3 0 0 g)
      = poolAt (x6 (ix1 (i 0))) (fun t => partAt (33⁻¹ : ℝ) (fun k j => x2 (ix2 k j)) (h33 x0 x1 x3)
          (fun d h g => x4 (ix3 d h g)) (fun h g => x5 (ix2 h g)) t g) := by
  unfold out0_A_8
  rw [View.read_writes_junk_eq_canon]
  unfold kernelRun0_A
  dsimp only
  rw [View.canon_unit_zero (by decide)]
  unfold kernelRun0_A.sl.r_37
  rw [len33]
  pointwise [k0_pay3, k0_pay1, k0_pay94, maskAt, partAt, poolAt]
  simp only [sum33, named33]
  rw [max_comm]
  rfl

end
end Cert.Proof.Ker
end
-- ==== Proof.Arr0.lean ====
/- The arrays after the first region, the body. -/
module

public import proofs.«01_k».proof.Proof.Rows
public import proofs.«01_k».proof.Proof.Call33
public import Idealize.ShloMosaic.Lib.Pipeline.ValueKit

@[expose] public section

set_option maxRecDepth 16384

noncomputable section

namespace Cert.Proof.Ker

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b)) (c : Dev nD)

/-- The blocks each point of the first region reads and writes. -/
theorem idx0 : ∀ t : Fin cfg0.N, win0_0.index t = ![t.val, 0, 0, 0] ∧ win0_1.index t = ![0, 0] ∧ win0_2.index t = ![0, 0]
    ∧ win0_3.index t = ![0, 0] ∧ win0_4.index t = ![0, 0, 0] ∧ win0_5.index t = ![0, 0] ∧ win0_6.index t = ![0]
    ∧ win0_7.index t = ![t.val, 0, 0] ∧ win0_8.index t = ![t.val, 0, 0] ∧ (grid0.coords t 0).val = t.val :=
  (by decide +kernel : ∀ t : Fin grid0.N, _)

/-- What the first region's blocks hold. -/
theorem blk0 (t : Fin 64) : (∀ x s k, iblk0 V c 0 t (ix4 0 x s k) = V c main_v12 (ix4 t x s k)) ∧ iblk0 V c 1 t = V c main_v13
    ∧ iblk0 V c 2 t = V c main_v11 ∧ iblk0 V c 3 t = V c main_arg5 ∧ iblk0 V c 4 t = V c main_v14 ∧ iblk0 V c 5 t = V c main_v15
    ∧ iblk0 V c 6 t = V c main_arg3 := by
  refine ⟨fun x s k => ?_, ?_, ?_, ?_, ?_, ?_, ?_⟩ <;> blk_ext! [iblk0, idx0 t]

/-- The sequence array after the first region. -/
theorem arr0_7 : (dat0 V c).arrAt 7 cfg0.N
    = seqArr (33⁻¹ : ℝ) (V c main_v12) (V c main_v13) (V c main_v11) (V c main_arg5) (V c main_v14) (V c main_v15) (V c main_arg3) := by
  refine (dat0 V c).arrAt_eq_of_covers 7 _ (by decide +kernel) fun t _ y => ?_
  blk_simp
  rw [after0_7]
  unfold outsAt0
  dsimp only
  obtain ⟨s, g, rfl⟩ := idx_seq y
  have e : ((View.whole main_v16_0).slice (win0_7.rect t)).emb (ix3 0 s g) = (ix3 (t : Fin 64) s g : S64x256x256.Idx) := by
    blk_point [idx0 t]
  rw [e]
  exact (seq33 ..).trans (seqArr_row (idx0 t).2.2.2.2.2.2.2.2.2 (blk0 V c t) s g)

/-- The pooled features after the first region. -/
theorem arr0_8 : (dat0 V c).arrAt 8 cfg0.N
    = poolArr (33⁻¹ : ℝ) (V c main_v12) (V c main_v13) (V c main_v11) (V c main_arg5) (V c main_v14) (V c main_v15) (V c main_arg3) := by
  refine (dat0 V c).arrAt_eq_of_covers 8 _ (by decide +kernel) fun t _ y => ?_
  blk_simp
  rw [after0_8]
  unfold outsAt0
  dsimp only
  obtain ⟨g, rfl⟩ := idx_pool y
  have e : ((View.whole main_v16_1).slice (win0_8.rect t)).emb (ix3 0 0 g) = (ix3 (t : Fin 64) 0 g : S64x1x256.Idx) := by
    blk_point [idx0 t]
  rw [e]
  exact (pool33 ..).trans (poolArr_row (idx0 t).2.2.2.2.2.2.2.2.2 (blk0 V c t) g)

end Cert.Proof.Ker
end
end
-- ==== Proof.Row21.lean ====
/- The padded scratch of a 21-vertex call after its first phase. -/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.Proof.Ker

open Idealize.ShloMosaic Idealize.ShloMosaic.TcCoe Idealize.SL.Sem
open Cert.KernelIdeal Cert.KernelIdeal.Gen

set_option maxHeartbeats 4000000 in
/-- After the first phase of a 21-vertex call the padded scratch holds, four frames in, the first graph layer, and
    zero in the four frames before and after it. -/
theorem hp21 (c : Dev nD) (arg1 : Memref sig .tc .vmem S1x3x256x21 .f32) (harg1 : arg1.IsWhole) (arg2 : Memref sig .tc .vmem S21x21 .f32) (harg2 : arg2.IsWhole)
    (arg4 : Memref sig .tc .vmem S3x256 .f32) (harg4 : arg4.IsWhole)
    (x0 : Vec Ideal S1x3x256x21 .f32) (x1 : Vec Ideal S21x21 .f32) (x3 : Vec Ideal S3x256 .f32) (y : S21x264x256.Idx) :
    View.canon (kernelRun1_A.sl.HS0_23 c arg1 harg1 arg2 harg2 arg4 harg4 x0 x1 x3) y
      = padRow (fun t => layer1' (fun t k c => x0 (ix4 0 c t k)) (fun k j => x1 (ix2 j k)) (fun c h => x3 (ix2 c h)) t (y 0) (y 2)) (y 1).val := by
  have hc := View.cover_of_tiledBy (kernelRun1_A.sl.HS0_23 c arg1 harg1 arg2 harg2 arg4 harg4 x0 x1 x3) ![1, 4, 256] (by sl_kernel_rfl) y
  revert hc
  unfold kernelRun1_A.sl.HS0_23
  intro hc
  canon_tiles x h using hc
  all_goals
    clear hc
    sl_unfold_words
    simp only [View.readAt_eq_ld, harg1.read_unread, harg2.read_unread, harg4.read_unread]
    idx_vars x
    idx_vars y
    obtain ⟨y0, hy0⟩ := y0
    obtain rfl : y2 = x2 := Fin.ext h2
    first
      | refine Eq.trans ?_ (padRow_row _ _ x1 h1).symm
        rw [show x0.val = 0 from Nat.lt_one_iff.mp x0.isLt] at h0
        dsimp only at h0
        subst h0
        pointwise [layer1']
      | have hx : x1.val < 4 := x1.isLt
        have hs : y1.val < 4 ∨ 260 ≤ y1.val := by omega
        refine Eq.trans ?_ (padRow_pad _ _ hs).symm
        pointwise

end Cert.Proof.Ker
end
-- ==== Proof.Call21.lean ====
/- What one call for 21 vertices leaves in its two output blocks: its taps, its mixing loop, its mask and its pooling. -/
module

public import proofs.«01_k».proof.Proof.Gen.KernelIdeal.Frame
public import proofs.«01_k».proof.Proof.Spec
public import proofs.«01_k».proof.Proof.Row21
public import Idealize.ShloMosaic.Lib.Pipeline.ValueKit

@[expose] public section

set_option maxRecDepth 16384

noncomputable section

namespace Cert.Proof.Ker

open Idealize.ShloMosaic Idealize.ShloMosaic.TcCoe Idealize.SL.Sem
open Cert.KernelIdeal Cert.KernelIdeal.Gen

/-- A later tap adds its product to what the accumulator holds. -/
theorem tap21 (a : Vec Ideal S21x256x256 .bf16) (b : Vec Ideal S1x256x256 .bf16) (s : Vec Ideal S21x256x256 .f32)
    (k : Fin 21) (t g : Fin 256) :
    k1_pay50 a b s (ix3 k t g) = s (ix3 k t g) + ∑ h : Fin 256, a (ix3 k t h) * b (ix3 0 h g) := by
  pointwise [k1_pay50]

/-- The first tap writes its product. -/
theorem tap21_first (a : Vec Ideal S21x256x256 .bf16) (b : Vec Ideal S1x256x256 .bf16) (k : Fin 21) (t g : Fin 256) :
    k1_pay49 (k1_pay47 a) (k1_pay48 b) (constant S5376x256 .f32 0x00000000#32) (ix3 k t g)
      = ∑ h : Fin 256, a (ix3 k t h) * b (ix3 0 h g) := by
  pointwise [k1_pay49, k1_pay47, k1_pay48]

section
variable (c : Dev nD) (i : grid1.Coords) (arg1 : Memref sig .tc .vmem S1x3x256x21 .f32) (harg1 : arg1.IsWhole)
    (arg2 : Memref sig .tc .vmem S21x21 .f32) (harg2 : arg2.IsWhole) (arg3 : Memref sig .tc .smem S21x21 .f32) (harg3 : arg3.IsWhole)
    (arg4 : Memref sig .tc .vmem S3x256 .f32) (harg4 : arg4.IsWhole) (arg5 : Memref sig .tc .vmem S9x256x256 .bf16) (harg5 : arg5.IsWhole)
    (arg6 : Memref sig .tc .vmem S256x256 .bf16) (harg6 : arg6.IsWhole) (arg7 : Memref sig .tc .smem S64 .i32) (harg7 : arg7.IsWhole)
    (arg8 : Memref sig .tc .vmem S1x256x256 .f32) (harg8 : arg8.IsWhole) (arg9 : Memref sig .tc .vmem S1x1x256 .f32) (harg9 : arg9.IsWhole)
    (arg10 : Memref sig .tc .vmem S21x264x256 .bf16) (harg10 : arg10.IsWhole)
    (arg11 : Memref sig .tc .vmem S21x256x256 .f32) (harg11 : arg11.IsWhole)
    (arg12 : Memref sig .tc .vmem S256x256 .f32) (harg12 : arg12.IsWhole)
    (x0 : Vec Ideal S1x3x256x21 .f32) (x1 : Vec Ideal S21x21 .f32) (x2 : Vec Ideal S21x21 .f32) (x3 : Vec Ideal S3x256 .f32) (x4 : Vec Ideal S9x256x256 .bf16)
    (x5 : Vec Ideal S256x256 .bf16) (x6 : Vec Ideal S64 .i32)

/-- The first layer of a 21-vertex call, from its operands. -/
abbrev h21 : Fin 256 → Fin 21 → Fin 256 → EReal :=
  layer1' (fun t k c => x0 (ix4 0 c t k)) (fun k j => x1 (ix2 j k)) (fun c h => x3 (ix2 c h))

/-- The frames a tap loads are the padded scratch from frame `d` on. -/
theorem hp21_load (d : ℕ) (inb : ∀ ax, (![0, d, 0] : Fin 3 → ℕ) ax + S21x256x256.size ax ≤ S21x264x256.size ax)
    (k : Fin 21) (t h : Fin 256) :
    arg10.view.readCov (kernelRun1_A.sl.HS0_23 c arg1 harg1 arg2 harg2 arg4 harg4 x0 x1 x3)
        (Rect.unit (s := S21x264x256) ![0, d, 0] S21x256x256.size inb).toLoadRect (ix3 k t h)
      = padRow (fun s => h21 x0 x1 x3 s k h) (d + t.val) := by
  rw [View.readCov_eq_canon']
  dsimp only
  rw [hp21]
  have e0 : ((Rect.unit (s := S21x264x256) ![0, d, 0] S21x256x256.size inb).toLoadRect.idx (ix3 k t h)) 0 = k := Fin.ext (by simp [LoadRect.idx])
  have e1 : (((Rect.unit (s := S21x264x256) ![0, d, 0] S21x256x256.size inb).toLoadRect.idx (ix3 k t h)) 1).val = d + t.val := by simp [LoadRect.idx]
  have e2 : ((Rect.unit (s := S21x264x256) ![0, d, 0] S21x256x256.size inb).toLoadRect.idx (ix3 k t h)) 2 = h := Fin.ext (by simp [LoadRect.idx])
  rw [e0, e1, e2]

/-- The weights a tap loads. -/
theorem w21 (d : Fin 9) (inb : ∀ ax, (![d.val, 0, 0] : Fin 3 → ℕ) ax + S1x256x256.size ax ≤ S9x256x256.size ax)
    (h g : Fin 256) :
    arg5.view.readAt (Elt Ideal) (Rect.unit (s := S9x256x256) ![d.val, 0, 0] S1x256x256.size inb).toLoadRect (harg5.unread x4) (ix3 0 h g)
      = x4 (ix3 d h g) := by
  rw [View.readAt_eq_ld, harg5.read_unread]
  pointwise

/-- The store of tap `d`, at a position: what the accumulator held there, plus the tap. -/
theorem step21 (d : Fin 9) (inb : ∀ ax, (![0, d.val, 0] : Fin 3 → ℕ) ax + S21x256x256.size ax ≤ S21x264x256.size ax)
    (inb' : ∀ ax, (![d.val, 0, 0] : Fin 3 → ℕ) ax + S1x256x256.size ax ≤ S9x256x256.size ax)
    (s s' : Vec Ideal S21x256x256 .f32)
    (hs : s' = k1_pay50 (arg10.view.readCov (kernelRun1_A.sl.HS0_23 c arg1 harg1 arg2 harg2 arg4 harg4 x0 x1 x3)
          (Rect.unit (s := S21x264x256) ![0, d.val, 0] S21x256x256.size inb).toLoadRect)
        (arg5.view.readAt (Elt Ideal) (Rect.unit (s := S9x256x256) ![d.val, 0, 0] S1x256x256.size inb').toLoadRect (harg5.unread x4)) s)
    (k : Fin 21) (t g : Fin 256) :
    s' (ix3 k t g) = s (ix3 k t g) + tapAt (h21 x0 x1 x3) (fun d h g => x4 (ix3 d h g)) t k g d := by
  subst hs
  rw [tap21, tapAt]
  congr 1
  exact Finset.sum_congr rfl fun h _ => congrArg₂ (· * ·) (hp21_load ..) (w21 ..)

set_option maxHeartbeats 400000 in
/-- After the nine taps the accumulator holds the convolution. -/
theorem conv21 (k : Fin 21) (t g : Fin 256) :
    kernelRun1_A.sl.v603 c arg1 harg1 arg2 harg2 arg4 harg4 arg5 harg5 arg10 arg11 x0 x1 x3 x4 (ix3 k t g)
      = conv (h21 x0 x1 x3) (fun d h g => x4 (ix3 d h g)) t k g := by
  have l0 : kernelRun1_A.sl.v514 c arg1 harg1 arg2 harg2 arg4 harg4 arg5 harg5 arg10 x0 x1 x3 x4 (ix3 k t g)
      = tapAt (h21 x0 x1 x3) (fun d h g => x4 (ix3 d h g)) t k g 0 :=
    (tap21_first (kernelRun1_A.sl.v506 c arg1 harg1 arg2 harg2 arg4 harg4 arg10 x0 x1 x3)
      (arg5.view.readAt (Elt Ideal) (Rect.unit (s := S9x256x256) ![0, 0, 0] S1x256x256.size (by decide)).toLoadRect (harg5.unread x4)) k t g).trans
      (Finset.sum_congr rfl fun h _ => congrArg₂ (· * ·) (hp21_load ..) (w21 arg5 harg5 x4 0 _ h g))
  have s1 := step21 c arg1 harg1 arg2 harg2 arg4 harg4 arg5 harg5 arg10 x0 x1 x3 x4 1 (by decide) (by decide)
    (kernelRun1_A.sl.v520 c arg1 harg1 arg2 harg2 arg4 harg4 arg5 harg5 arg10 arg11 x0 x1 x3 x4)
    (kernelRun1_A.sl.v525 c arg1 harg1 arg2 harg2 arg4 harg4 arg5 harg5 arg10 arg11 x0 x1 x3 x4) rfl k t g
  have s2 := step21 c arg1 harg1 arg2 harg2 arg4 harg4 arg5 harg5 arg10 x0 x1 x3 x4 2 (by decide) (by decide)
    (kernelRun1_A.sl.v531 c arg1 harg1 arg2 harg2 arg4 harg4 arg5 harg5 arg10 arg11 x0 x1 x3 x4)
    (kernelRun1_A.sl.v536 c arg1 harg1 arg2 harg2 arg4 harg4 arg5 harg5 arg10 arg11 x0 x1 x3 x4) rfl k t g
  have s3 := step21 c arg1 harg1 arg2 harg2 arg4 harg4 arg5 harg5 arg10 x0 x1 x3 x4 3 (by decide) (by decide)
    (kernelRun1_A.sl.v542 c arg1 harg1 arg2 harg2 arg4 harg4 arg5 harg5 arg10 arg11 x0 x1 x3 x4)
    (kernelRun1_A.sl.v547 c arg1 harg1 arg2 harg2 arg4 harg4 arg5 harg5 arg10 arg11 x0 x1 x3 x4) rfl k t g
  have s4 := step21 c arg1 harg1 arg2 harg2 arg4 harg4 arg5 harg5 arg10 x0 x1 x3 x4 4 (by decide) (by decide)
    (kernelRun1_A.sl.v553 c arg1 harg1 arg2 harg2 arg4 harg4 arg5 harg5 arg10 arg11 x0 x1 x3 x4)
    (kernelRun1_A.sl.v558 c arg1 harg1 arg2 harg2 arg4 harg4 arg5 harg5 arg10 arg11 x0 x1 x3 x4) rfl k t g
  have s5 := step21 c arg1 harg1 arg2 harg2 arg4 harg4 arg5 harg5 arg10 x0 x1 x3 x4 5 (by decide) (by decide)
    (kernelRun1_A.sl.v564 c arg1 harg1 arg2 harg2 arg4 harg4 arg5 harg5 arg10 arg11 x0 x1 x3 x4)
    (kernelRun1_A.sl.v569 c arg1 harg1 arg2 harg2 arg4 harg4 arg5 harg5 arg10 arg11 x0 x1 x3 x4) rfl k t g
  have s6 := step21 c arg1 harg1 arg2 harg2 arg4 harg4 arg5 harg5 arg10 x0 x1 x3 x4 6 (by decide) (by decide)
    (kernelRun1_A.sl.v575 c arg1 harg1 arg2 harg2 arg4 harg4 arg5 harg5 arg10 arg11 x0 x1 x3 x4)
    (kernelRun1_A.sl.v580 c arg1 harg1 arg2 harg2 arg4 harg4 arg5 harg5 arg10 arg11 x0 x1 x3 x4) rfl k t g
  have s7 := step21 c arg1 harg1 arg2 harg2 arg4 harg4 arg5 harg5 arg10 x0 x1 x3 x4 7 (by decide) (by decide)
    (kernelRun1_A.sl.v586 c arg1 harg1 arg2 harg2 arg4 harg4 arg5 harg5 arg10 arg11 x0 x1 x3 x4)
    (kernelRun1_A.sl.v591 c arg1 harg1 arg2 harg2 arg4 harg4 arg5 harg5 arg10 arg11 x0 x1 x3 x4) rfl k t g
  have s8 := step21 c arg1 harg1 arg2 harg2 arg4 harg4 arg5 harg5 arg10 x0 x1 x3 x4 8 (by decide) (by decide)
    (kernelRun1_A.sl.v597 c arg1 harg1 arg2 harg2 arg4 harg4 arg5 harg5 arg10 arg11 x0 x1 x3 x4)
    (kernelRun1_A.sl.v602 c arg1 harg1 arg2 harg2 arg4 harg4 arg5 harg5 arg10 arg11 x0 x1 x3 x4) rfl k t g
  have r0 : kernelRun1_A.sl.v520 c arg1 harg1 arg2 harg2 arg4 harg4 arg5 harg5 arg10 arg11 x0 x1 x3 x4 = kernelRun1_A.sl.v514 c arg1 harg1 arg2 harg2 arg4 harg4 arg5 harg5 arg10 x0 x1 x3 x4 := View.readCov_cons_toLoadRect ..
  have r1 : kernelRun1_A.sl.v531 c arg1 harg1 arg2 harg2 arg4 harg4 arg5 harg5 arg10 arg11 x0 x1 x3 x4 = kernelRun1_A.sl.v525 c arg1 harg1 arg2 harg2 arg4 harg4 arg5 harg5 arg10 arg11 x0 x1 x3 x4 := View.readCov_cons_toLoadRect ..
  have r2 : kernelRun1_A.sl.v542 c arg1 harg1 arg2 harg2 arg4 harg4 arg5 harg5 arg10 arg11 x0 x1 x3 x4 = kernelRun1_A.sl.v536 c arg1 harg1 arg2 harg2 arg4 harg4 arg5 harg5 arg10 arg11 x0 x1 x3 x4 := View.readCov_cons_toLoadRect ..
  have r3 : kernelRun1_A.sl.v553 c arg1 harg1 arg2 harg2 arg4 harg4 arg5 harg5 arg10 arg11 x0 x1 x3 x4 = kernelRun1_A.sl.v547 c arg1 harg1 arg2 harg2 arg4 harg4 arg5 harg5 arg10 arg11 x0 x1 x3 x4 := View.readCov_cons_toLoadRect ..
  have r4 : kernelRun1_A.sl.v564 c arg1 harg1 arg2 harg2 arg4 harg4 arg5 harg5 arg10 arg11 x0 x1 x3 x4 = kernelRun1_A.sl.v558 c arg1 harg1 arg2 harg2 arg4 harg4 arg5 harg5 arg10 arg11 x0 x1 x3 x4 := View.readCov_cons_toLoadRect ..
  have r5 : kernelRun1_A.sl.v575 c arg1 harg1 arg2 harg2 arg4 harg4 arg5 harg5 arg10 arg11 x0 x1 x3 x4 = kernelRun1_A.sl.v569 c arg1 harg1 arg2 harg2 arg4 harg4 arg5 harg5 arg10 arg11 x0 x1 x3 x4 := View.readCov_cons_toLoadRect ..
  have r6 : kernelRun1_A.sl.v586 c arg1 harg1 arg2 harg2 arg4 harg4 arg5 harg5 arg10 arg11 x0 x1 x3 x4 = kernelRun1_A.sl.v580 c arg1 harg1 arg2 harg2 arg4 harg4 arg5 harg5 arg10 arg11 x0 x1 x3 x4 := View.readCov_cons_toLoadRect ..
  have r7 : kernelRun1_A.sl.v597 c arg1 harg1 arg2 harg2 arg4 harg4 arg5 harg5 arg10 arg11 x0 x1 x3 x4 = kernelRun1_A.sl.v591 c arg1 harg1 arg2 harg2 arg4 harg4 arg5 harg5 arg10 arg11 x0 x1 x3 x4 := View.readCov_cons_toLoadRect ..
  have r8 : kernelRun1_A.sl.v603 c arg1 harg1 arg2 harg2 arg4 harg4 arg5 harg5 arg10 arg11 x0 x1 x3 x4 = kernelRun1_A.sl.v602 c arg1 harg1 arg2 harg2 arg4 harg4 arg5 harg5 arg10 arg11 x0 x1 x3 x4 := View.readCov_cons_toLoadRect ..
  rw [r8, s8, r7, s7, r6, s6, r5, s5, r4, s4, r3, s3, r2, s2, r1, s1, r0, l0]
  exact conv_eq _ _ _ _ _
/-- The accumulator's last contents: the rectified convolution times `W2`. -/
theorem feat21 (k : Fin 21) (t g : Fin 256) :
    kernelRun1_A.sl.v614 c arg1 harg1 arg2 harg2 arg4 harg4 arg5 harg5 arg6 harg6 arg10 arg11 x0 x1 x3 x4 x5 (ix3 k t g)
      = feat (h21 x0 x1 x3) (fun d h g => x4 (ix3 d h g)) (fun h g => x5 (ix2 h g)) t k g := by
  have e : kernelRun1_A.sl.v614 c arg1 harg1 arg2 harg2 arg4 harg4 arg5 harg5 arg6 harg6 arg10 arg11 x0 x1 x3 x4 x5
      = k1_pay61 (kernelRun1_A.sl.v603 c arg1 harg1 arg2 harg2 arg4 harg4 arg5 harg5 arg10 arg11 x0 x1 x3 x4)
        (arg6.view.readAt (Elt Ideal) (Rect.unit (s := S256x256) ![0, 0] S256x256.size inb_S256x256_S256x256_0_0).toLoadRect (harg6.unread x5)) := rfl
  rw [e, View.readAt_eq_ld, harg6.read_unread]
  pointwise [k1_pay61, feat]
  simp only [conv21]

/-- What a trip adds, as the loop's body spells it, from the contents of its two operands. -/
def trip21 (X3 : BufTy.Contents (Elt Ideal) arg3.view.ty) (X11 : BufTy.Contents (Elt Ideal) arg11.view.ty) (k : ℕ)
    (inb3 : ∀ (j : Fin 21) (ax), (![(Scalar.indexCast (Scf.iv 0#32 1#32 k)).toNat, j.val] : Fin 2 → ℕ) ax + (![1, 1] : Fin 2 → ℕ) ax ≤ S21x21.size ax)
    (inb11 : ∀ (j : Fin 21) (ax), (![j.val, 0, 0] : Fin 3 → ℕ) ax + (![1, 256, 256] : Fin 3 → ℕ) ax ≤ S21x256x256.size ax) (t g : Fin 256) : EReal :=
  max (∑ j : Fin 21,
    arg3.view.readAt (Elt Ideal) (Rect.unit (s := S21x21) ![(Scalar.indexCast (Scf.iv 0#32 1#32 k)).toNat, j.val] ![1, 1] (inb3 j)).toLoadRect X3 (Shape.Idx.first (s := S1x1) (by decide))
    * arg11.view.readAt (Elt Ideal) (Rect.unit (s := S21x256x256) ![j.val, 0, 0] ![1, 256, 256] (inb11 j)).toLoadRect X11 (ix3 0 t g)) 0

set_option maxHeartbeats 1000000 in
/-- A trip stores, over the whole scratch, what the scratch held plus the trip's addend. -/
theorem tripL21 (X3 : BufTy.Contents (Elt Ideal) arg3.view.ty) (X11 : BufTy.Contents (Elt Ideal) arg11.view.ty) (k : Fin k1_t1_loop.trips)
    (f : BufTy.Contents (Elt Ideal) arg12.view.ty) (inb3) (inb11) :
    ∃ w, tripL_k1_t1 (F := Ideal) Variants.none c none i arg1 harg1 arg2 harg2 arg3 harg3 arg4 harg4 arg5 harg5 arg6 harg6 arg7 harg7 arg8 harg8 arg9 harg9 arg10 harg10 arg11 harg11 arg12 harg12 X3 X11 k f
        = [⟨Rect.unit (s := S256x256) ![0, 0] S256x256.size inb_S256x256_S256x256_0_0, w⟩]
      ∧ ∀ t g, w (ix2 t g) = arg12.view.readAt (Elt Ideal) (Rect.unit (s := S256x256) ![0, 0] S256x256.size inb_S256x256_S256x256_0_0).toLoadRect f (ix2 t g)
          + trip21 arg3 arg11 X3 X11 k.val inb3 inb11 t g := by
  refine ⟨k1_pay63 (trip_k1_t1.sl.v793 arg3 arg11 arg12 X3 X11 k f), by unfold tripL_k1_t1 trip_k1_t1; rfl, fun t g => ?_⟩
  sl_unfold_words
  pointwise [k1_pay63]
  unfold trip21
  simp only [Fin.sum_univ_castSucc, Fin.sum_univ_zero, zero_add, Fin.val_castSucc, Fin.val_last]

/-- A trip's addend at the contents the loop starts with: one vertex of the mixing. -/
theorem trip21_eq (k : Fin 21) (inb3) (inb11) (t g : Fin 256) :
    trip21 arg3 arg11 (harg3.unread x2)
        (arg11.view.writes (Elt Ideal) arg11.view.junk (kernelRun1_A.sl.HS1_10 c arg1 harg1 arg2 harg2 arg4 harg4 arg5 harg5 arg6 harg6 arg10 arg11 x0 x1 x3 x4 x5)) k.val inb3 inb11 t g
      = max (∑ j : Fin 21, feat (h21 x0 x1 x3) (fun d h g => x4 (ix3 d h g)) (fun h g => x5 (ix2 h g)) t j g * x2 (ix2 k j)) 0 := by
  unfold trip21
  congr 1
  refine Finset.sum_congr rfl fun j _ => ?_
  rw [mul_comm, ← feat21 c arg1 harg1 arg2 harg2 arg4 harg4 arg5 harg5 arg6 harg6 arg10 arg11 x0 x1 x3 x4 x5 j t g]
  refine congrArg₂ (· * ·) ?_ ?_
  · rw [View.readAt_writes_junk_eq_canon]
    unfold kernelRun1_A.sl.HS1_10
    rw [View.canon_cons_unit_zero (by decide)]
    refine congrArg _ (funext fun a => ?_)
    fin_cases a <;> exact Fin.ext (by simp [LoadRect.idx])
  · rw [View.readAt_eq_ld, harg3.read_unread]
    refine congrArg x2 (funext fun a => ?_)
    fin_cases a <;> exact Fin.ext (by simp [LoadRect.idx, trip_word k.val (by omega)])

set_option maxHeartbeats 1000000 in
/-- Before trip `n` the sum's scratch holds the addends of the trips before it. -/
theorem loop21 (t g : Fin 256) : ∀ (n : ℕ) (h : n ≤ 21),
    arg12.view.readCov (pb_k1_t1 (F := Ideal) Variants.none c none i arg1 harg1 arg2 harg2 arg3 harg3 arg4 harg4 arg5 harg5 arg6 harg6 arg7 harg7 arg8 harg8 arg9 harg9 arg10 harg10 arg11 harg11 arg12 harg12 (harg3.unread x2)
          (arg11.view.writes (Elt Ideal) arg11.view.junk (kernelRun1_A.sl.HS1_10 c arg1 harg1 arg2 harg2 arg4 harg4 arg5 harg5 arg6 harg6 arg10 arg11 x0 x1 x3 x4 x5))
          (arg12.view.writes (Elt Ideal) arg12.view.junk (kernelRun1_A.sl.HS2_1 (F := Ideal))) n ++ kernelRun1_A.sl.HS2_1 (F := Ideal))
        (Rect.unit (s := S256x256) ![0, 0] S256x256.size inb_S256x256_S256x256_0_0).toLoadRect (ix2 t g)
      = ∑ k : Fin n, max (∑ j : Fin 21, feat (h21 x0 x1 x3) (fun d h g => x4 (ix3 d h g)) (fun h g => x5 (ix2 h g)) t j g * x2 (ix2 (Fin.castLE h k) j)) 0
  | 0, _ => by
    rw [pb_k1_t1, List.nil_append, Fin.sum_univ_zero]
    unfold kernelRun1_A.sl.HS2_1
    rw [View.readCov_cons_toLoadRect]
    sl_unfold_words
    pointwise
  | n + 1, h => by
    have inb3 : ∀ (j : Fin 21) (ax), (![(Scalar.indexCast (Scf.iv 0#32 1#32 n)).toNat, j.val] : Fin 2 → ℕ) ax + (![1, 1] : Fin 2 → ℕ) ax ≤ S21x21.size ax := by
      rw [trip_word n (by omega)]
      intro j ax
      fin_cases ax <;> simp [S21x21] <;> omega
    have inb11 : ∀ (j : Fin 21) (ax), (![j.val, 0, 0] : Fin 3 → ℕ) ax + (![1, 256, 256] : Fin 3 → ℕ) ax ≤ S21x256x256.size ax := by
      intro j ax
      fin_cases ax <;> simp [S21x256x256] <;> omega
    obtain ⟨w, hw, hv⟩ := tripL21 c i arg1 harg1 arg2 harg2 arg3 harg3 arg4 harg4 arg5 harg5 arg6 harg6 arg7 harg7 arg8 harg8 arg9 harg9 arg10 harg10 arg11 harg11 arg12 harg12 (harg3.unread x2)
          (arg11.view.writes (Elt Ideal) arg11.view.junk (kernelRun1_A.sl.HS1_10 c arg1 harg1 arg2 harg2 arg4 harg4 arg5 harg5 arg6 harg6 arg10 arg11 x0 x1 x3 x4 x5)) ⟨n, h⟩
          (arg12.view.writes (Elt Ideal) (arg12.view.writes (Elt Ideal) arg12.view.junk (kernelRun1_A.sl.HS2_1 (F := Ideal)))
            (pb_k1_t1 (F := Ideal) Variants.none c none i arg1 harg1 arg2 harg2 arg3 harg3 arg4 harg4 arg5 harg5 arg6 harg6 arg7 harg7 arg8 harg8 arg9 harg9 arg10 harg10 arg11 harg11 arg12 harg12 (harg3.unread x2)
              (arg11.view.writes (Elt Ideal) arg11.view.junk (kernelRun1_A.sl.HS1_10 c arg1 harg1 arg2 harg2 arg4 harg4 arg5 harg5 arg6 harg6 arg10 arg11 x0 x1 x3 x4 x5))
              (arg12.view.writes (Elt Ideal) arg12.view.junk (kernelRun1_A.sl.HS2_1 (F := Ideal))) n)) inb3 inb11
    rw [pb_k1_t1_succ Variants.none c none i arg1 harg1 arg2 harg2 arg3 harg3 arg4 harg4 arg5 harg5 arg6 harg6 arg7 harg7 arg8 harg8 arg9 harg9 arg10 harg10 arg11 harg11 arg12 harg12 _ _ _ ⟨n, h⟩, hw]
    rw [List.cons_append, List.nil_append, List.cons_append, View.readCov_cons_toLoadRect, hv, Fin.sum_univ_castSucc,
      ← View.writes_append]
    refine congrArg₂ (· + ·) (loop21 t g n (by omega)) ?_
    exact trip21_eq c arg1 harg1 arg2 harg2 arg3 harg3 arg4 harg4 arg5 harg5 arg6 harg6 arg10 arg11 x0 x1 x2 x3 x4 x5 ⟨n, h⟩ inb3 inb11 t g

/-- The clip length the call reads. -/
theorem len21 : kernelRun1_A.sl.r_2 (F := Ideal) c i arg7 harg7 x6 = x6 (ix1 (i 0)) := by
  unfold kernelRun1_A.sl.r_2
  rw [View.readAt_eq_ld, harg7.read_unread]
  refine congrArg x6 (funext fun a => ?_)
  fin_cases a
  refine Fin.ext ?_
  have h : (i 0).val < 64 := (i 0).isLt
  simp [LoadRect.idx, k1_off22, Scalar.indexCast]
  omega

/-- The sum over the vertices that a call leaves in its scratch. -/
theorem sum21 (t g : Fin 256) :
    kernelRun1_A.sl.v625 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 (ix2 t g)
      = mixSum (fun k j => x2 (ix2 k j)) (fun k => feat (h21 x0 x1 x3) (fun d h g => x4 (ix3 d h g)) (fun h g => x5 (ix2 h g)) t k g) :=
  loop21 c i arg1 harg1 arg2 harg2 arg3 harg3 arg4 harg4 arg5 harg5 arg6 harg6 arg7 harg7 arg8 harg8 arg9 harg9 arg10 harg10 arg11 harg11 arg12 harg12 x0 x1 x2 x3 x4 x5 t g 21 le_rfl

/-- The named constant of the 21-vertex calls is the reciprocal of 21. -/
theorem named21 : Named.named (F := Ideal) (φ := .f32) κ "inv21" 0x3D430C31#32 = ((21⁻¹ : ℝ) : EReal) :=
  (IdealRules.named_const.ideal_named_scalar _ _ _ _ rfl).trans (by norm_num)

/-- The masked sequence of one call. -/
theorem seq21 (t g : Fin 256) :
    out1_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix3 0 t g)
      = maskAt (x6 (ix1 (i 0))) (fun t => partAt (21⁻¹ : ℝ) (fun k j => x2 (ix2 k j)) (h21 x0 x1 x3)
          (fun d h g => x4 (ix3 d h g)) (fun h g => x5 (ix2 h g)) t g) t := by
  unfold out1_A_7
  rw [View.read_writes_junk_eq_canon]
  unfold kernelRun1_A
  dsimp only
  rw [View.canon_unit_zero (by decide), len21]
  pointwise [k1_pay65, k1_pay64, maskAt, partAt]
  rw [sum21, named21]

/-- The pooled features of one call. -/
theorem pool21 (g : Fin 256) :
    out1_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix3 0 0 g)
      = poolAt (x6 (ix1 (i 0))) (fun t => partAt (21⁻¹ : ℝ) (fun k j => x2 (ix2 k j)) (h21 x0 x1 x3)
          (fun d h g => x4 (ix3 d h g)) (fun h g => x5 (ix2 h g)) t g) := by
  unfold out1_A_8
  rw [View.read_writes_junk_eq_canon]
  unfold kernelRun1_A
  dsimp only
  rw [View.canon_unit_zero (by decide)]
  unfold kernelRun1_A.sl.r_3
  rw [len21]
  pointwise [k1_pay66, k1_pay64, maskAt, partAt, poolAt]
  simp only [sum21, named21]
  rw [max_comm]
  rfl

end
end Cert.Proof.Ker
end
-- ==== Proof.Arr1.lean ====
/- The arrays after the second region, the left hand. -/
module

public import proofs.«01_k».proof.Proof.Rows
public import proofs.«01_k».proof.Proof.Call21
public import Idealize.ShloMosaic.Lib.Pipeline.ValueKit

@[expose] public section

set_option maxRecDepth 16384

noncomputable section

namespace Cert.Proof.Ker

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b)) (c : Dev nD)

/-- The blocks each point of the second region reads and writes. -/
theorem idx1 : ∀ t : Fin cfg1.N, win1_0.index t = ![t.val, 0, 0, 0] ∧ win1_1.index t = ![0, 0] ∧ win1_2.index t = ![0, 0]
    ∧ win1_3.index t = ![0, 0] ∧ win1_4.index t = ![0, 0, 0] ∧ win1_5.index t = ![0, 0] ∧ win1_6.index t = ![0]
    ∧ win1_7.index t = ![t.val, 0, 0] ∧ win1_8.index t = ![t.val, 0, 0] ∧ (grid1.coords t 0).val = t.val :=
  (by decide +kernel : ∀ t : Fin grid1.N, _)

/-- What the second region's blocks hold. -/
theorem blk1 (t : Fin 64) : (∀ x s k, iblk1 V c 0 t (ix4 0 x s k) = V c main_v30 (ix4 t x s k)) ∧ iblk1 V c 1 t = V c main_v31
    ∧ iblk1 V c 2 t = V c main_v29 ∧ iblk1 V c 3 t = V c main_arg9 ∧ iblk1 V c 4 t = V c main_v32 ∧ iblk1 V c 5 t = V c main_v33
    ∧ iblk1 V c 6 t = V c main_arg3 := by
  refine ⟨fun x s k => ?_, ?_, ?_, ?_, ?_, ?_, ?_⟩ <;> blk_ext! [iblk1, idx1 t]

/-- The sequence array after the second region. -/
theorem arr1_7 : (dat1 V c).arrAt 7 cfg1.N
    = seqArr (21⁻¹ : ℝ) (V c main_v30) (V c main_v31) (V c main_v29) (V c main_arg9) (V c main_v32) (V c main_v33) (V c main_arg3) := by
  refine (dat1 V c).arrAt_eq_of_covers 7 _ (by decide +kernel) fun t _ y => ?_
  blk_simp
  rw [after1_7]
  unfold outsAt1
  dsimp only
  obtain ⟨s, g, rfl⟩ := idx_seq y
  have e : ((View.whole main_v34_0).slice (win1_7.rect t)).emb (ix3 0 s g) = (ix3 (t : Fin 64) s g : S64x256x256.Idx) := by
    blk_point [idx1 t]
  rw [e]
  exact (seq21 ..).trans (seqArr_row (idx1 t).2.2.2.2.2.2.2.2.2 (blk1 V c t) s g)

/-- The pooled features after the second region. -/
theorem arr1_8 : (dat1 V c).arrAt 8 cfg1.N
    = poolArr (21⁻¹ : ℝ) (V c main_v30) (V c main_v31) (V c main_v29) (V c main_arg9) (V c main_v32) (V c main_v33) (V c main_arg3) := by
  refine (dat1 V c).arrAt_eq_of_covers 8 _ (by decide +kernel) fun t _ y => ?_
  blk_simp
  rw [after1_8]
  unfold outsAt1
  dsimp only
  obtain ⟨g, rfl⟩ := idx_pool y
  have e : ((View.whole main_v34_1).slice (win1_8.rect t)).emb (ix3 0 0 g) = (ix3 (t : Fin 64) 0 g : S64x1x256.Idx) := by
    blk_point [idx1 t]
  rw [e]
  exact (pool21 ..).trans (poolArr_row (idx1 t).2.2.2.2.2.2.2.2.2 (blk1 V c t) g)

end Cert.Proof.Ker
end
end
-- ==== Proof.Arr2.lean ====
/- The arrays after the third region, the right hand. -/
module

public import proofs.«01_k».proof.Proof.Rows
public import proofs.«01_k».proof.Proof.Call21
public import Idealize.ShloMosaic.Lib.Pipeline.ValueKit

@[expose] public section

set_option maxRecDepth 16384

noncomputable section

namespace Cert.Proof.Ker

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b)) (c : Dev nD)

/-- The blocks each point of the third region reads and writes. -/
theorem idx2 : ∀ t : Fin cfg2.N, win2_0.index t = ![t.val, 0, 0, 0] ∧ win2_1.index t = ![0, 0] ∧ win2_2.index t = ![0, 0]
    ∧ win2_3.index t = ![0, 0] ∧ win2_4.index t = ![0, 0, 0] ∧ win2_5.index t = ![0, 0] ∧ win2_6.index t = ![0]
    ∧ win2_7.index t = ![t.val, 0, 0] ∧ win2_8.index t = ![t.val, 0, 0] ∧ (grid2.coords t 0).val = t.val :=
  (by decide +kernel : ∀ t : Fin grid2.N, _)

/-- What the third region's blocks hold. -/
theorem blk2 (t : Fin 64) : (∀ x s k, iblk2 V c 0 t (ix4 0 x s k) = V c main_v48 (ix4 t x s k)) ∧ iblk2 V c 1 t = V c main_v49
    ∧ iblk2 V c 2 t = V c main_v47 ∧ iblk2 V c 3 t = V c main_arg13 ∧ iblk2 V c 4 t = V c main_v50 ∧ iblk2 V c 5 t = V c main_v51
    ∧ iblk2 V c 6 t = V c main_arg3 := by
  refine ⟨fun x s k => ?_, ?_, ?_, ?_, ?_, ?_, ?_⟩ <;> blk_ext! [iblk2, idx2 t]

/-- The third region's call computes what the second's does: its sequence. -/
theorem out2_7 : @out2_A_7 Ideal _ = @out1_A_7 Ideal _ := by sl_kernel_rfl
/-- The third region's call computes what the second's does: its pooled features. -/
theorem out2_8 : @out2_A_8 Ideal _ = @out1_A_8 Ideal _ := by sl_kernel_rfl

/-- The sequence array after the third region. -/
theorem arr2_7 : (dat2 V c).arrAt 7 cfg2.N
    = seqArr (21⁻¹ : ℝ) (V c main_v48) (V c main_v49) (V c main_v47) (V c main_arg13) (V c main_v50) (V c main_v51) (V c main_arg3) := by
  refine (dat2 V c).arrAt_eq_of_covers 7 _ (by decide +kernel) fun t _ y => ?_
  blk_simp
  rw [after2_7]
  unfold outsAt2
  dsimp only
  obtain ⟨s, g, rfl⟩ := idx_seq y
  have e : ((View.whole main_v52_0).slice (win2_7.rect t)).emb (ix3 0 s g) = (ix3 (t : Fin 64) s g : S64x256x256.Idx) := by
    blk_point [idx2 t]
  rw [e, out2_7]
  exact (seq21 ..).trans (seqArr_row (idx2 t).2.2.2.2.2.2.2.2.2 (blk2 V c t) s g)

/-- The pooled features after the third region. -/
theorem arr2_8 : (dat2 V c).arrAt 8 cfg2.N
    = poolArr (21⁻¹ : ℝ) (V c main_v48) (V c main_v49) (V c main_v47) (V c main_arg13) (V c main_v50) (V c main_v51) (V c main_arg3) := by
  refine (dat2 V c).arrAt_eq_of_covers 8 _ (by decide +kernel) fun t _ y => ?_
  blk_simp
  rw [after2_8]
  unfold outsAt2
  dsimp only
  obtain ⟨g, rfl⟩ := idx_pool y
  have e : ((View.whole main_v52_1).slice (win2_8.rect t)).emb (ix3 0 0 g) = (ix3 (t : Fin 64) 0 g : S64x1x256.Idx) := by
    blk_point [idx2 t]
  rw [e, out2_8]
  exact (pool21 ..).trans (poolArr_row (idx2 t).2.2.2.2.2.2.2.2.2 (blk2 V c t) g)

end Cert.Proof.Ker
end
end
-- ==== Proof.RefPart.lean ====
/- The reference read down to the plain functions of one body part. -/
module

public import proofs.«01_k».proof.Proof.Gen.ReferenceIdeal.Run
public import proofs.«01_k».proof.Proof.Spec

@[expose] public section

set_option maxRecDepth 16384

noncomputable section

namespace Cert.Proof.Ref

open Idealize.ShloMosaic Idealize.ShloMosaic.TcCoe Idealize.SL.Sem
open Cert.ReferenceIdeal Cert.ReferenceIdeal.Gen Cert.ReferenceIdeal.Value

/-- The padding value, the integer zero as a float, is zero. -/
theorem sitofp_zero : FloatOps.sitofp (F := Ideal) .f32 0#32 = (0 : EReal) := by
  show ((((0#32 : BitVec 32).toInt : ℝ)) : EReal) = 0
  simp

/-- The lower bound of the clip's length is one. -/
theorem one_word : (id (constant (F := Ideal) S_ .f32 0x3F800000#32)) ix0 = (1 : EReal) := by
  show Ideal.ofBits .f32 0x3F800000#32 = 1
  simp [Ideal.ofBits, Ideal.ieee, -EReal.coe_mul]; norm_num

/-- The adjacency with self loops. -/
def adj33 (A : FVec Ideal S33x33 .f32) : FVec Ideal S33x33 .f32 :=
  addf A (uitofp .f32 (cmpi .eq (addi (iotaInDim S33x33 32 0) (broadcastInDim S33x33 ![] bcast_S_S33x33 (constantI S_ 32 0#32))) (iotaInDim S33x33 32 1)))

/-- The normalised adjacency. -/
def norm33 (A : FVec Ideal S33x33 .f32) : FVec Ideal S33x33 .f32 :=
  Host.divf (adj33 A) (broadcastInDim S33x33 ![0, 1] bcast_S33x1_S33x33_0_1 (broadcastInDim S33x1 ![0] bcast_S33_S33x1_0 (maximumf (broadcastInDim S33 ![] bcast_S_S33 (id (constant S_ .f32 0x358637BD#32))) (Host.reduceAdd (adj33 A) (constant S_ .f32 0x00000000#32) reducesTo_S33x33_S33_d1 h_S_))))

/-- The first graph layer, padded along the frames. -/
def first33 (x : FVec Ideal S64x256x33x3 .f32) (An : FVec Ideal S33x33 .f32) (W1 : FVec Ideal S3x256 .f32) : FVec Ideal S64x264x33x256 .f32 :=
  pad S64x264x33x256 ![0, 4, 0, 0] ![0, 4, 0, 0] ![0, 0, 0, 0] (maximumf (transpose S64x256x33x256 [0, 1, 3, 2] (Host.dotGeneral dot_S64x256x33x256_S33x33_S64x256x256x33_2_1_013_0_n_n none (Host.dotGeneral dot_S64x256x33x3_S3x256_S64x256x33x256_3_0_012_1_n_n none x W1) An) transposes_S64x256x256x33_S64x256x33x256_0_1_3_2) (broadcastInDim S64x256x33x256 ![] bcast_S_S64x256x33x256 (constant S_ .f32 0x00000000#32))) (sitofp .f32 (constantI S_ 32 0#32)) pads_S64x256x33x256_S64x264x33x256_000_440_000_000 h_S_

/-- One tap of the temporal convolution. -/
def tap33 (d : ℕ) (h1 : S64x264x33x256.Slices ![0, d, 0, 0] S64x256x33x256) (h2 : S9x256x256.Slices ![d, 0, 0] S1x256x256)
    (hp : FVec Ideal S64x264x33x256 .f32) (Wt : FVec Ideal S9x256x256 .f32) : FVec Ideal S64x256x33x256 .f32 :=
  Host.dotGeneral dot_S64x256x33x256_S256x256_S64x256x33x256_3_0_012_1_n_n none (extractStridedSlice S64x256x33x256 ![0, d, 0, 0] hp h1) (shapeCast S256x256 (extractStridedSlice S1x256x256 ![d, 0, 0] Wt h2) shapeCasts_S1x256x256_S256x256)

/-- The temporal convolution: the sum of its nine taps. -/
def conv33 (hp : FVec Ideal S64x264x33x256 .f32) (Wt : FVec Ideal S9x256x256 .f32) : FVec Ideal S64x256x33x256 .f32 :=
  addf (addf (addf (addf (addf (addf (addf (addf (tap33 0 slices_S64x264x33x256_S64x256x33x256_0_0_0_0 slices_S9x256x256_S1x256x256_0_0_0 hp Wt) (tap33 1 slices_S64x264x33x256_S64x256x33x256_0_1_0_0 slices_S9x256x256_S1x256x256_1_0_0 hp Wt)) (tap33 2 slices_S64x264x33x256_S64x256x33x256_0_2_0_0 slices_S9x256x256_S1x256x256_2_0_0 hp Wt)) (tap33 3 slices_S64x264x33x256_S64x256x33x256_0_3_0_0 slices_S9x256x256_S1x256x256_3_0_0 hp Wt)) (tap33 4 slices_S64x264x33x256_S64x256x33x256_0_4_0_0 slices_S9x256x256_S1x256x256_4_0_0 hp Wt)) (tap33 5 slices_S64x264x33x256_S64x256x33x256_0_5_0_0 slices_S9x256x256_S1x256x256_5_0_0 hp Wt)) (tap33 6 slices_S64x264x33x256_S64x256x33x256_0_6_0_0 slices_S9x256x256_S1x256x256_6_0_0 hp Wt)) (tap33 7 slices_S64x264x33x256_S64x256x33x256_0_7_0_0 slices_S9x256x256_S1x256x256_7_0_0 hp Wt)) (tap33 8 slices_S64x264x33x256_S64x256x33x256_0_8_0_0 slices_S9x256x256_S1x256x256_8_0_0 hp Wt)

/-- The second graph layer over the rectified convolution, averaged over the vertices. -/
def last33 (z : FVec Ideal S64x256x33x256 .f32) (An : FVec Ideal S33x33 .f32) (W2 : FVec Ideal S256x256 .f32) : FVec Ideal S64x256x256 .f32 :=
  Host.divf (Host.reduceAdd (maximumf (transpose S64x256x33x256 [0, 1, 3, 2] (Host.dotGeneral dot_S64x256x33x256_S33x33_S64x256x256x33_2_1_013_0_n_n none (Host.dotGeneral dot_S64x256x33x256_S256x256_S64x256x33x256_3_0_012_1_n_n none (maximumf z (broadcastInDim S64x256x33x256 ![] bcast_S_S64x256x33x256 (constant S_ .f32 0x00000000#32))) W2) An) transposes_S64x256x256x33_S64x256x33x256_0_1_3_2) (broadcastInDim S64x256x33x256 ![] bcast_S_S64x256x33x256 (constant S_ .f32 0x00000000#32))) (constant S_ .f32 0x00000000#32) reducesTo_S64x256x33x256_S64x256x256_d2 h_S_) (broadcastInDim S64x256x256 ![] bcast_S_S64x256x256 (constant S_ .f32 0x42040000#32))

/-- One body part of the reference. -/
def part33 (x : FVec Ideal S64x256x33x3 .f32) (A : FVec Ideal S33x33 .f32) (W1 : FVec Ideal S3x256 .f32) (Wt : FVec Ideal S9x256x256 .f32) (W2 : FVec Ideal S256x256 .f32) : FVec Ideal S64x256x256 .f32 :=
  last33 (conv33 (first33 x (norm33 A) W1) Wt) (norm33 A) W2

/-- The entry (k, j) of the normalised adjacency of 33 vertices is `normAdj` of the adjacency. -/
theorem norm33_apply (A : FVec Ideal S33x33 .f32) (k j : Fin 33) :
    norm33 A (ix2 k j) = normAdj (fun k j => A (ix2 k j)) k j := by
  pointwise [norm33, adj33]
  rfl

/-- The padded first layer of 33 vertices at padded frame s: `layer1` inside, zero in the padding. -/
theorem first33_apply (x : FVec Ideal S64x256x33x3 .f32) (An : FVec Ideal S33x33 .f32) (W1 : FVec Ideal S3x256 .f32)
    (b : Fin 64) (s : Fin 264) (k : Fin 33) (h : Fin 256) :
    first33 x An W1 (ix4 b s k h) = padRow (fun t => layer1 (fun t k c => x (ix4 b t k c)) (fun k j => An (ix2 k j)) (fun c h => W1 (ix2 c h)) t k h) s := by
  pointwise [first33, padRow, layer1]
  simp only [sitofp_zero]

/-- One tap of the temporal convolution over 33 vertices: the window shifted by d times the d-th weights. -/
theorem tap33_apply (d : ℕ) (h1 : S64x264x33x256.Slices ![0, d, 0, 0] S64x256x33x256) (h2 : S9x256x256.Slices ![d, 0, 0] S1x256x256)
    (hp : FVec Ideal S64x264x33x256 .f32) (Wt : FVec Ideal S9x256x256 .f32) (hd : d < 9)
    (b : Fin 64) (t : Fin 256) (k : Fin 33) (g : Fin 256) :
    tap33 d h1 h2 hp Wt (ix4 b t k g) = ∑ h : Fin 256, hp (ix4 b ⟨d + t, by omega⟩ k h) * Wt (ix3 ⟨d, hd⟩ h g) := by
  pointwise [tap33]

/-- A tap over the padded first layer. -/
theorem tap33_first (d : ℕ) (h1 : S64x264x33x256.Slices ![0, d, 0, 0] S64x256x33x256) (h2 : S9x256x256.Slices ![d, 0, 0] S1x256x256)
    (x : FVec Ideal S64x256x33x3 .f32) (An : FVec Ideal S33x33 .f32) (W1 : FVec Ideal S3x256 .f32) (Wt : FVec Ideal S9x256x256 .f32) (hd : d < 9)
    (b : Fin 64) (t : Fin 256) (k : Fin 33) (g : Fin 256) :
    tap33 d h1 h2 (first33 x An W1) Wt (ix4 b t k g)
      = tapAt (layer1 (fun t k c => x (ix4 b t k c)) (fun k j => An (ix2 k j)) (fun c h => W1 (ix2 c h))) (fun d h g => Wt (ix3 d h g)) t k g ⟨d, hd⟩ := by
  unfold tapAt
  simp only [tap33_apply d h1 h2 _ Wt hd, first33_apply]

/-- The temporal convolution over 33 vertices is the sum of its nine taps. -/
theorem conv33_apply (x : FVec Ideal S64x256x33x3 .f32) (An : FVec Ideal S33x33 .f32) (W1 : FVec Ideal S3x256 .f32) (Wt : FVec Ideal S9x256x256 .f32)
    (b : Fin 64) (t : Fin 256) (k : Fin 33) (g : Fin 256) :
    conv33 (first33 x An W1) Wt (ix4 b t k g)
      = conv (layer1 (fun t k c => x (ix4 b t k c)) (fun k j => An (ix2 k j)) (fun c h => W1 (ix2 c h))) (fun d h g => Wt (ix3 d h g)) t k g := by
  unfold conv33
  simp only [addf_apply]
  simp (disch := omega) only [tap33_first]
  exact conv_eq _ _ _ _ _

/-- The second layer over 33 vertices and its mean over the vertices, at one frame and channel. -/
theorem last33_apply (z : FVec Ideal S64x256x33x256 .f32) (An : FVec Ideal S33x33 .f32) (W2 : FVec Ideal S256x256 .f32)
    (b : Fin 64) (t g : Fin 256) :
    last33 z An W2 (ix3 b t g)
      = mixSum (fun k j => An (ix2 k j)) (fun k => ∑ h : Fin 256, max (z (ix4 b t k h)) 0 * W2 (ix2 h g)) * (((33⁻¹ : ℝ)) : EReal) := by
  pointwise [last33, mixSum]
  exact div33 _

/-- One whole body part of the reference with 33 vertices, at one clip, frame and channel. -/
theorem part33_apply (x : FVec Ideal S64x256x33x3 .f32) (A : FVec Ideal S33x33 .f32) (W1 : FVec Ideal S3x256 .f32) (Wt : FVec Ideal S9x256x256 .f32) (W2 : FVec Ideal S256x256 .f32)
    (b : Fin 64) (t g : Fin 256) :
    part33 x A W1 Wt W2 (ix3 b t g)
      = partAt (33⁻¹) (normAdj fun k j => A (ix2 k j)) (layer1 (fun t k c => x (ix4 b t k c)) (normAdj fun k j => A (ix2 k j)) (fun c h => W1 (ix2 c h))) (fun d h g => Wt (ix3 d h g)) (fun h g => W2 (ix2 h g)) t g := by
  unfold part33 partAt feat
  simp only [last33_apply, conv33_apply, norm33_apply]

/-- The adjacency with self loops. -/
def adj21 (A : FVec Ideal S21x21 .f32) : FVec Ideal S21x21 .f32 :=
  addf A (uitofp .f32 (cmpi .eq (addi (iotaInDim S21x21 32 0) (broadcastInDim S21x21 ![] bcast_S_S21x21 (constantI S_ 32 0#32))) (iotaInDim S21x21 32 1)))

/-- The normalised adjacency. -/
def norm21 (A : FVec Ideal S21x21 .f32) : FVec Ideal S21x21 .f32 :=
  Host.divf (adj21 A) (broadcastInDim S21x21 ![0, 1] bcast_S21x1_S21x21_0_1 (broadcastInDim S21x1 ![0] bcast_S21_S21x1_0 (maximumf (broadcastInDim S21 ![] bcast_S_S21 (id (constant S_ .f32 0x358637BD#32))) (Host.reduceAdd (adj21 A) (constant S_ .f32 0x00000000#32) reducesTo_S21x21_S21_d1 h_S_))))

/-- The first graph layer, padded along the frames. -/
def first21 (x : FVec Ideal S64x256x21x3 .f32) (An : FVec Ideal S21x21 .f32) (W1 : FVec Ideal S3x256 .f32) : FVec Ideal S64x264x21x256 .f32 :=
  pad S64x264x21x256 ![0, 4, 0, 0] ![0, 4, 0, 0] ![0, 0, 0, 0] (maximumf (transpose S64x256x21x256 [0, 1, 3, 2] (Host.dotGeneral dot_S64x256x21x256_S21x21_S64x256x256x21_2_1_013_0_n_n none (Host.dotGeneral dot_S64x256x21x3_S3x256_S64x256x21x256_3_0_012_1_n_n none x W1) An) transposes_S64x256x256x21_S64x256x21x256_0_1_3_2) (broadcastInDim S64x256x21x256 ![] bcast_S_S64x256x21x256 (constant S_ .f32 0x00000000#32))) (sitofp .f32 (constantI S_ 32 0#32)) pads_S64x256x21x256_S64x264x21x256_000_440_000_000 h_S_

/-- One tap of the temporal convolution. -/
def tap21 (d : ℕ) (h1 : S64x264x21x256.Slices ![0, d, 0, 0] S64x256x21x256) (h2 : S9x256x256.Slices ![d, 0, 0] S1x256x256)
    (hp : FVec Ideal S64x264x21x256 .f32) (Wt : FVec Ideal S9x256x256 .f32) : FVec Ideal S64x256x21x256 .f32 :=
  Host.dotGeneral dot_S64x256x21x256_S256x256_S64x256x21x256_3_0_012_1_n_n none (extractStridedSlice S64x256x21x256 ![0, d, 0, 0] hp h1) (shapeCast S256x256 (extractStridedSlice S1x256x256 ![d, 0, 0] Wt h2) shapeCasts_S1x256x256_S256x256)

/-- The temporal convolution: the sum of its nine taps. -/
def conv21 (hp : FVec Ideal S64x264x21x256 .f32) (Wt : FVec Ideal S9x256x256 .f32) : FVec Ideal S64x256x21x256 .f32 :=
  addf (addf (addf (addf (addf (addf (addf (addf (tap21 0 slices_S64x264x21x256_S64x256x21x256_0_0_0_0 slices_S9x256x256_S1x256x256_0_0_0 hp Wt) (tap21 1 slices_S64x264x21x256_S64x256x21x256_0_1_0_0 slices_S9x256x256_S1x256x256_1_0_0 hp Wt)) (tap21 2 slices_S64x264x21x256_S64x256x21x256_0_2_0_0 slices_S9x256x256_S1x256x256_2_0_0 hp Wt)) (tap21 3 slices_S64x264x21x256_S64x256x21x256_0_3_0_0 slices_S9x256x256_S1x256x256_3_0_0 hp Wt)) (tap21 4 slices_S64x264x21x256_S64x256x21x256_0_4_0_0 slices_S9x256x256_S1x256x256_4_0_0 hp Wt)) (tap21 5 slices_S64x264x21x256_S64x256x21x256_0_5_0_0 slices_S9x256x256_S1x256x256_5_0_0 hp Wt)) (tap21 6 slices_S64x264x21x256_S64x256x21x256_0_6_0_0 slices_S9x256x256_S1x256x256_6_0_0 hp Wt)) (tap21 7 slices_S64x264x21x256_S64x256x21x256_0_7_0_0 slices_S9x256x256_S1x256x256_7_0_0 hp Wt)) (tap21 8 slices_S64x264x21x256_S64x256x21x256_0_8_0_0 slices_S9x256x256_S1x256x256_8_0_0 hp Wt)

/-- The second graph layer over the rectified convolution, averaged over the vertices. -/
def last21 (z : FVec Ideal S64x256x21x256 .f32) (An : FVec Ideal S21x21 .f32) (W2 : FVec Ideal S256x256 .f32) : FVec Ideal S64x256x256 .f32 :=
  Host.divf (Host.reduceAdd (maximumf (transpose S64x256x21x256 [0, 1, 3, 2] (Host.dotGeneral dot_S64x256x21x256_S21x21_S64x256x256x21_2_1_013_0_n_n none (Host.dotGeneral dot_S64x256x21x256_S256x256_S64x256x21x256_3_0_012_1_n_n none (maximumf z (broadcastInDim S64x256x21x256 ![] bcast_S_S64x256x21x256 (constant S_ .f32 0x00000000#32))) W2) An) transposes_S64x256x256x21_S64x256x21x256_0_1_3_2) (broadcastInDim S64x256x21x256 ![] bcast_S_S64x256x21x256 (constant S_ .f32 0x00000000#32))) (constant S_ .f32 0x00000000#32) reducesTo_S64x256x21x256_S64x256x256_d2 h_S_) (broadcastInDim S64x256x256 ![] bcast_S_S64x256x256 (constant S_ .f32 0x41A80000#32))

/-- One body part of the reference. -/
def part21 (x : FVec Ideal S64x256x21x3 .f32) (A : FVec Ideal S21x21 .f32) (W1 : FVec Ideal S3x256 .f32) (Wt : FVec Ideal S9x256x256 .f32) (W2 : FVec Ideal S256x256 .f32) : FVec Ideal S64x256x256 .f32 :=
  last21 (conv21 (first21 x (norm21 A) W1) Wt) (norm21 A) W2

/-- The entry (k, j) of the normalised adjacency of 21 vertices is `normAdj` of the adjacency. -/
theorem norm21_apply (A : FVec Ideal S21x21 .f32) (k j : Fin 21) :
    norm21 A (ix2 k j) = normAdj (fun k j => A (ix2 k j)) k j := by
  pointwise [norm21, adj21]
  rfl

/-- The padded first layer of 21 vertices at padded frame s: `layer1` inside, zero in the padding. -/
theorem first21_apply (x : FVec Ideal S64x256x21x3 .f32) (An : FVec Ideal S21x21 .f32) (W1 : FVec Ideal S3x256 .f32)
    (b : Fin 64) (s : Fin 264) (k : Fin 21) (h : Fin 256) :
    first21 x An W1 (ix4 b s k h) = padRow (fun t => layer1 (fun t k c => x (ix4 b t k c)) (fun k j => An (ix2 k j)) (fun c h => W1 (ix2 c h)) t k h) s := by
  pointwise [first21, padRow, layer1]
  simp only [sitofp_zero]

/-- One tap of the temporal convolution over 21 vertices: the window shifted by d times the d-th weights. -/
theorem tap21_apply (d : ℕ) (h1 : S64x264x21x256.Slices ![0, d, 0, 0] S64x256x21x256) (h2 : S9x256x256.Slices ![d, 0, 0] S1x256x256)
    (hp : FVec Ideal S64x264x21x256 .f32) (Wt : FVec Ideal S9x256x256 .f32) (hd : d < 9)
    (b : Fin 64) (t : Fin 256) (k : Fin 21) (g : Fin 256) :
    tap21 d h1 h2 hp Wt (ix4 b t k g) = ∑ h : Fin 256, hp (ix4 b ⟨d + t, by omega⟩ k h) * Wt (ix3 ⟨d, hd⟩ h g) := by
  pointwise [tap21]

/-- A tap over the padded first layer. -/
theorem tap21_first (d : ℕ) (h1 : S64x264x21x256.Slices ![0, d, 0, 0] S64x256x21x256) (h2 : S9x256x256.Slices ![d, 0, 0] S1x256x256)
    (x : FVec Ideal S64x256x21x3 .f32) (An : FVec Ideal S21x21 .f32) (W1 : FVec Ideal S3x256 .f32) (Wt : FVec Ideal S9x256x256 .f32) (hd : d < 9)
    (b : Fin 64) (t : Fin 256) (k : Fin 21) (g : Fin 256) :
    tap21 d h1 h2 (first21 x An W1) Wt (ix4 b t k g)
      = tapAt (layer1 (fun t k c => x (ix4 b t k c)) (fun k j => An (ix2 k j)) (fun c h => W1 (ix2 c h))) (fun d h g => Wt (ix3 d h g)) t k g ⟨d, hd⟩ := by
  unfold tapAt
  simp only [tap21_apply d h1 h2 _ Wt hd, first21_apply]

/-- The temporal convolution over 21 vertices is the sum of its nine taps. -/
theorem conv21_apply (x : FVec Ideal S64x256x21x3 .f32) (An : FVec Ideal S21x21 .f32) (W1 : FVec Ideal S3x256 .f32) (Wt : FVec Ideal S9x256x256 .f32)
    (b : Fin 64) (t : Fin 256) (k : Fin 21) (g : Fin 256) :
    conv21 (first21 x An W1) Wt (ix4 b t k g)
      = conv (layer1 (fun t k c => x (ix4 b t k c)) (fun k j => An (ix2 k j)) (fun c h => W1 (ix2 c h))) (fun d h g => Wt (ix3 d h g)) t k g := by
  unfold conv21
  simp only [addf_apply]
  simp (disch := omega) only [tap21_first]
  exact conv_eq _ _ _ _ _

/-- The second layer over 21 vertices and its mean over the vertices, at one frame and channel. -/
theorem last21_apply (z : FVec Ideal S64x256x21x256 .f32) (An : FVec Ideal S21x21 .f32) (W2 : FVec Ideal S256x256 .f32)
    (b : Fin 64) (t g : Fin 256) :
    last21 z An W2 (ix3 b t g)
      = mixSum (fun k j => An (ix2 k j)) (fun k => ∑ h : Fin 256, max (z (ix4 b t k h)) 0 * W2 (ix2 h g)) * (((21⁻¹ : ℝ)) : EReal) := by
  pointwise [last21, mixSum]
  exact div21 _

/-- One whole body part of the reference with 21 vertices, at one clip, frame and channel. -/
theorem part21_apply (x : FVec Ideal S64x256x21x3 .f32) (A : FVec Ideal S21x21 .f32) (W1 : FVec Ideal S3x256 .f32) (Wt : FVec Ideal S9x256x256 .f32) (W2 : FVec Ideal S256x256 .f32)
    (b : Fin 64) (t g : Fin 256) :
    part21 x A W1 Wt W2 (ix3 b t g)
      = partAt (21⁻¹) (normAdj fun k j => A (ix2 k j)) (layer1 (fun t k c => x (ix4 b t k c)) (normAdj fun k j => A (ix2 k j)) (fun c h => W1 (ix2 c h))) (fun d h g => Wt (ix3 d h g)) (fun h g => W2 (ix2 h g)) t g := by
  unfold part21 partAt feat
  simp only [last21_apply, conv21_apply, norm21_apply]

/-- The three parts side by side along the channels. -/
def cat (p0 p1 p2 : FVec Ideal S64x256x256 .f32) : FVec Ideal S64x256x768 .f32 :=
  concatenate S64x256x768 2 [⟨S64x256x256, p0⟩, ⟨S64x256x256, p1⟩, ⟨S64x256x256, p2⟩] concatenates_S64x256x256_S64x256x256_S64x256x256_S64x256x768_d2

/-- The masked sequence. -/
def seqR (p : FVec Ideal S64x256x768 .f32) (len : IVec S64 32) : FVec Ideal S64x256x768 .f32 :=
  mulf p (broadcastInDim S64x256x768 ![0, 1, 2] bcast_S64x256x1_S64x256x768_0_1_2 (broadcastInDim S64x256x1 ![0, 1] bcast_S64x256_S64x256x1_0_1 (uitofp .f32 (cmpi .slt (broadcastInDim S64x256 ![0, 1] bcast_S1x256_S64x256_0_1 (broadcastInDim S1x256 ![1] bcast_S256_S1x256_1 (iotaInDim S256 32 0))) (broadcastInDim S64x256 ![0, 1] bcast_S64x1_S64x256_0_1 (broadcastInDim S64x1 ![0] bcast_S64_S64x1_0 len))))))

/-- The pooled result. -/
def poolR (s : FVec Ideal S64x256x768 .f32) (len : IVec S64 32) : FVec Ideal S64x768 .f32 :=
  Host.divf (Host.reduceAdd s (constant S_ .f32 0x00000000#32) reducesTo_S64x256x768_S64x768_d1 h_S_) (broadcastInDim S64x768 ![0, 1] bcast_S64x1_S64x768_0_1 (broadcastInDim S64x1 ![0] bcast_S64_S64x1_0 (maximumf (broadcastInDim S64 ![] bcast_S_S64 (id (constant S_ .f32 0x3F800000#32))) (sitofp .f32 len))))

/-- The parts of the run's own term are the parts named here. -/
theorem res_parts (V0 : Valuation τ sig (Elt Ideal)) : res_main_v207 V0
    = cat (part33 (V0 (Proc.devRef .tc main_arg0)) (V0 (Proc.devRef .tc main_arg4)) (V0 (Proc.devRef .tc main_arg5)) (V0 (Proc.devRef .tc main_arg6)) (V0 (Proc.devRef .tc main_arg7)))
        (part21 (V0 (Proc.devRef .tc main_arg1)) (V0 (Proc.devRef .tc main_arg8)) (V0 (Proc.devRef .tc main_arg9)) (V0 (Proc.devRef .tc main_arg10)) (V0 (Proc.devRef .tc main_arg11)))
        (part21 (V0 (Proc.devRef .tc main_arg2)) (V0 (Proc.devRef .tc main_arg12)) (V0 (Proc.devRef .tc main_arg13)) (V0 (Proc.devRef .tc main_arg14)) (V0 (Proc.devRef .tc main_arg15))) := rfl

/-- The masked sequence at (b, t, g): the parts' value where frame t is below the clip's length, zero elsewhere. -/
theorem seqR_apply (p : FVec Ideal S64x256x768 .f32) (len : IVec S64 32) (b : Fin 64) (t : Fin 256) (g : Fin 768) :
    seqR p len (ix3 b t g) = maskAt (len (ix1 b)) (fun t => p (ix3 b t g)) t := by
  pointwise [seqR]
  exact mul_mask _ _

/-- The pooled value at (b, g): the sum of the sequence over the frames divided by the length, at least one. -/
theorem poolR_apply (p : FVec Ideal S64x256x768 .f32) (len : IVec S64 32) (b : Fin 64) (g : Fin 768) :
    poolR (seqR p len) len (ix2 b g) = poolAt (len (ix1 b)) (fun t => p (ix3 b t g)) := by
  have h : ∀ s, poolR s len (ix2 b g) = Ideal.div (∑ t : Fin 256, s (ix3 b t g)) (max 1 (FloatOps.sitofp (F := Ideal) .f32 (len (ix1 b)))) := by
    intro s
    pointwise [poolR]
    rw [one_word]
  rw [h]
  unfold poolAt
  simp only [seqR_apply]

/-- The three parts side by side, read at channel g: the part that g falls into. -/
theorem cat_apply (p0 p1 p2 : FVec Ideal S64x256x256 .f32) (b : Fin 64) (t : Fin 256) (g : Fin 768) :
    cat p0 p1 p2 (ix3 b t g) = if h : g.val < 256 then p0 (ix3 b t ⟨g.val, h⟩)
      else if h : g.val - 256 < 256 then p1 (ix3 b t ⟨g.val - 256, h⟩) else p2 (ix3 b t ⟨g.val - 256 - 256, by omega⟩) := by
  pointwise [cat]

end Cert.Proof.Ref

end
-- ==== Proof.Host.lean ====
/- What the host code computes before and after the three regions. -/
module

public import proofs.«01_k».proof.Proof.Gen.KernelIdeal.Frame
public import proofs.«01_k».proof.Proof.RefPart

@[expose] public section

set_option maxRecDepth 16384

noncomputable section

namespace Cert.Proof.Ker

open Idealize.ShloMosaic Idealize.ShloMosaic.TcCoe Idealize.SL.Sem
open Cert.KernelIdeal Cert.KernelIdeal.Gen

section
variable (U : Valuation τ sig (Elt Ideal))

/-- What the host operations before the first region leave in the arrays the region reads. -/
theorem pre0 : let U' := StableHlo.after hostOps0_2 (StableHlo.after hostOps0_1 (StableHlo.after hostOps0 U))
    U' (Proc.devRef .tc main_v12) = transpose S64x3x256x33 [0, 3, 1, 2] (U (Proc.devRef .tc main_arg0)) transposes_S64x256x33x3_S64x3x256x33_0_3_1_2
    ∧ U' (Proc.devRef .tc main_v13) = transpose S33x33 [1, 0] (Ref.norm33 (U (Proc.devRef .tc main_arg4))) transposes_S33x33_S33x33_1_0
    ∧ U' (Proc.devRef .tc main_v11) = Ref.norm33 (U (Proc.devRef .tc main_arg4))
    ∧ U' (Proc.devRef .tc main_v14) = (truncf .bf16 (U (Proc.devRef .tc main_arg6) : FVec Ideal S9x256x256 .f32) bitsLt_bf16_f32 : FVec Ideal S9x256x256 .bf16)
    ∧ U' (Proc.devRef .tc main_v15) = (truncf .bf16 (U (Proc.devRef .tc main_arg7) : FVec Ideal S256x256 .f32) bitsLt_bf16_f32 : FVec Ideal S256x256 .bf16) := by
  refine ⟨?_, ?_, ?_, ?_, ?_⟩ <;> after_results <;> rfl

/-- What the host operations before the second region leave in the arrays the region reads. -/
theorem pre1 : let U' := StableHlo.after hostOps1_2 (StableHlo.after hostOps1_1 (StableHlo.after hostOps1 U))
    U' (Proc.devRef .tc main_v30) = transpose S64x3x256x21 [0, 3, 1, 2] (U (Proc.devRef .tc main_arg1)) transposes_S64x256x21x3_S64x3x256x21_0_3_1_2
    ∧ U' (Proc.devRef .tc main_v31) = transpose S21x21 [1, 0] (Ref.norm21 (U (Proc.devRef .tc main_arg8))) transposes_S21x21_S21x21_1_0
    ∧ U' (Proc.devRef .tc main_v29) = Ref.norm21 (U (Proc.devRef .tc main_arg8))
    ∧ U' (Proc.devRef .tc main_v32) = (truncf .bf16 (U (Proc.devRef .tc main_arg10) : FVec Ideal S9x256x256 .f32) bitsLt_bf16_f32 : FVec Ideal S9x256x256 .bf16)
    ∧ U' (Proc.devRef .tc main_v33) = (truncf .bf16 (U (Proc.devRef .tc main_arg11) : FVec Ideal S256x256 .f32) bitsLt_bf16_f32 : FVec Ideal S256x256 .bf16)
    ∧ U' (Proc.devRef .tc main_v17) = shapeCast S64x256 (U (Proc.devRef .tc main_v16_1)) shapeCasts_S64x1x256_S64x256 := by
  refine ⟨?_, ?_, ?_, ?_, ?_, ?_⟩ <;> after_results <;> rfl

/-- What the host operations before the third region leave in the arrays the region reads. -/
theorem pre2 : let U' := StableHlo.after hostOps2_2 (StableHlo.after hostOps2_1 (StableHlo.after hostOps2 U))
    U' (Proc.devRef .tc main_v48) = transpose S64x3x256x21 [0, 3, 1, 2] (U (Proc.devRef .tc main_arg2)) transposes_S64x256x21x3_S64x3x256x21_0_3_1_2
    ∧ U' (Proc.devRef .tc main_v49) = transpose S21x21 [1, 0] (Ref.norm21 (U (Proc.devRef .tc main_arg12))) transposes_S21x21_S21x21_1_0
    ∧ U' (Proc.devRef .tc main_v47) = Ref.norm21 (U (Proc.devRef .tc main_arg12))
    ∧ U' (Proc.devRef .tc main_v50) = (truncf .bf16 (U (Proc.devRef .tc main_arg14) : FVec Ideal S9x256x256 .f32) bitsLt_bf16_f32 : FVec Ideal S9x256x256 .bf16)
    ∧ U' (Proc.devRef .tc main_v51) = (truncf .bf16 (U (Proc.devRef .tc main_arg15) : FVec Ideal S256x256 .f32) bitsLt_bf16_f32 : FVec Ideal S256x256 .bf16)
    ∧ U' (Proc.devRef .tc main_v35) = shapeCast S64x256 (U (Proc.devRef .tc main_v34_1)) shapeCasts_S64x1x256_S64x256 := by
  refine ⟨?_, ?_, ?_, ?_, ?_, ?_⟩ <;> after_results <;> rfl

/-- The pooled features of the three parts, side by side. -/
def cat2 (q0 q1 q2 : FVec Ideal S64x256 .f32) : FVec Ideal S64x768 .f32 :=
  concatenate S64x768 1 [⟨S64x256, q0⟩, ⟨S64x256, q1⟩, ⟨S64x256, q2⟩] concatenates_S64x256_S64x256_S64x256_S64x768_d1

/-- The results, from what the regions leave. -/
theorem post : let U' := StableHlo.after hostOps3 U
    U' (Proc.devRef .tc main_v54) = Ref.cat (U (Proc.devRef .tc main_v16_0)) (U (Proc.devRef .tc main_v34_0)) (U (Proc.devRef .tc main_v52_0))
    ∧ U' (Proc.devRef .tc main_v55) = cat2 (U (Proc.devRef .tc main_v17)) (U (Proc.devRef .tc main_v35))
        (shapeCast S64x256 (U (Proc.devRef .tc main_v52_1)) shapeCasts_S64x1x256_S64x256) := by
  refine ⟨?_, ?_⟩ <;> after_results <;> rfl
end

end Cert.Proof.Ker
end
end
-- ==== Proof.Parts.lean ====
/- A body part of the kernel is the body part of the reference where its arrays are real. -/
module

public import proofs.«01_k».proof.Proof.Host
public import proofs.«01_k».proof.Proof.Rows

@[expose] public section

set_option maxRecDepth 16384

noncomputable section

namespace Cert.Proof.Ker

open Idealize.ShloMosaic Idealize.ShloMosaic.TcCoe Idealize.SL.Sem
open Cert.KernelIdeal Cert.KernelIdeal.Gen

/-- Every entry of an array is a real number. -/
def Real {s : Shape} (x : FVec Ideal s .f32) : Prop := ∀ i, Fin' (x i)

/-- A part's features, masked. -/
def seqOf (p : FVec Ideal S64x256x256 .f32) (len : IVec S64 32) : FVec Ideal S64x256x256 .f32 := fun y =>
  maskAt (len (ix1 (y 0))) (fun t => p (ix3 (y 0) t (y 2))) (y 1)

/-- A part's features, pooled. -/
def poolOf (p : FVec Ideal S64x256x256 .f32) (len : IVec S64 32) : FVec Ideal S64x1x256 .f32 := fun y =>
  poolAt (len (ix1 (y 0))) (fun t => p (ix3 (y 0) t (y 2)))

section
variable {x : FVec Ideal S64x256x33x3 .f32} {A : FVec Ideal S33x33 .f32} {W1 : FVec Ideal S3x256 .f32}
  (Wt : FVec Ideal S9x256x256 .f32) (W2 : FVec Ideal S256x256 .f32) (b : Fin 64) (g t : Fin 256)

/-- The 33-vertex part of the kernel is the reference's. -/
theorem part33_eq (hx : Real x) (hA : Real A) (hW : Real W1) :
    partArr (33⁻¹ : ℝ) (transpose S64x3x256x33 [0, 3, 1, 2] x transposes_S64x256x33x3_S64x3x256x33_0_3_1_2)
      (transpose S33x33 [1, 0] (Ref.norm33 A) transposes_S33x33_S33x33_1_0) (Ref.norm33 A) W1
      (truncf .bf16 Wt bitsLt_bf16_f32) (truncf .bf16 W2 bitsLt_bf16_f32) b g t = Ref.part33 x A W1 Wt W2 (ix3 b t g) := by
  rw [Ref.part33_apply, ← layer1'_eq _ _ _ (fun _ _ _ => hx _) (normAdj_real _ fun _ _ => hA _) (fun _ _ => hW _)]
  unfold partArr
  pointwise
  simp only [Ref.norm33_apply]

/-- What a 33-vertex region leaves, once it has read the host's arrays, is the reference's part, masked and pooled. -/
theorem region33 {p : FVec Ideal S64x3x256x33 .f32} {aT a : FVec Ideal S33x33 .f32} {w1 : FVec Ideal S3x256 .f32} {wt : FVec Ideal S9x256x256 .bf16}
    {w2 : FVec Ideal S256x256 .bf16} {len' len : IVec S64 32} (hx : Real x) (hA : Real A) (hW : Real W1) (hw : w1 = W1) (hl : len' = len)
    (h : p = transpose S64x3x256x33 [0, 3, 1, 2] x transposes_S64x256x33x3_S64x3x256x33_0_3_1_2
      ∧ aT = transpose S33x33 [1, 0] (Ref.norm33 A) transposes_S33x33_S33x33_1_0 ∧ a = Ref.norm33 A
      ∧ wt = truncf .bf16 Wt bitsLt_bf16_f32 ∧ w2 = truncf .bf16 W2 bitsLt_bf16_f32) :
    seqArr (33⁻¹ : ℝ) p aT a w1 wt w2 len' = seqOf (Ref.part33 x A W1 Wt W2) len
      ∧ poolArr (33⁻¹ : ℝ) p aT a w1 wt w2 len' = poolOf (Ref.part33 x A W1 Wt W2) len := by
  obtain ⟨rfl, rfl, rfl, rfl, rfl⟩ := h
  subst hw hl
  have e := fun b g => funext fun t => part33_eq Wt W2 b g t hx hA hW
  exact ⟨funext fun y => congrArg (maskAt _ · _) (e _ _), funext fun y => congrArg (poolAt _) (e _ _)⟩
end

section
variable {x : FVec Ideal S64x256x21x3 .f32} {A : FVec Ideal S21x21 .f32} {W1 : FVec Ideal S3x256 .f32}
  (Wt : FVec Ideal S9x256x256 .f32) (W2 : FVec Ideal S256x256 .f32) (b : Fin 64) (g t : Fin 256)

/-- The 21-vertex parts of the kernel are the reference's. -/
theorem part21_eq (hx : Real x) (hA : Real A) (hW : Real W1) :
    partArr (21⁻¹ : ℝ) (transpose S64x3x256x21 [0, 3, 1, 2] x transposes_S64x256x21x3_S64x3x256x21_0_3_1_2)
      (transpose S21x21 [1, 0] (Ref.norm21 A) transposes_S21x21_S21x21_1_0) (Ref.norm21 A) W1
      (truncf .bf16 Wt bitsLt_bf16_f32) (truncf .bf16 W2 bitsLt_bf16_f32) b g t = Ref.part21 x A W1 Wt W2 (ix3 b t g) := by
  rw [Ref.part21_apply, ← layer1'_eq _ _ _ (fun _ _ _ => hx _) (normAdj_real _ fun _ _ => hA _) (fun _ _ => hW _)]
  unfold partArr
  pointwise
  simp only [Ref.norm21_apply]

/-- What a 21-vertex region leaves, once it has read the host's arrays, is the reference's part, masked and pooled. -/
theorem region21 {p : FVec Ideal S64x3x256x21 .f32} {aT a : FVec Ideal S21x21 .f32} {w1 : FVec Ideal S3x256 .f32} {wt : FVec Ideal S9x256x256 .bf16}
    {w2 : FVec Ideal S256x256 .bf16} {len' len : IVec S64 32} (hx : Real x) (hA : Real A) (hW : Real W1) (hw : w1 = W1) (hl : len' = len)
    (h : p = transpose S64x3x256x21 [0, 3, 1, 2] x transposes_S64x256x21x3_S64x3x256x21_0_3_1_2
      ∧ aT = transpose S21x21 [1, 0] (Ref.norm21 A) transposes_S21x21_S21x21_1_0 ∧ a = Ref.norm21 A
      ∧ wt = truncf .bf16 Wt bitsLt_bf16_f32 ∧ w2 = truncf .bf16 W2 bitsLt_bf16_f32) :
    seqArr (21⁻¹ : ℝ) p aT a w1 wt w2 len' = seqOf (Ref.part21 x A W1 Wt W2) len
      ∧ poolArr (21⁻¹ : ℝ) p aT a w1 wt w2 len' = poolOf (Ref.part21 x A W1 Wt W2) len := by
  obtain ⟨rfl, rfl, rfl, rfl, rfl⟩ := h
  subst hw hl
  have e := fun b g => funext fun t => part21_eq Wt W2 b g t hx hA hW
  exact ⟨funext fun y => congrArg (maskAt _ · _) (e _ _), funext fun y => congrArg (poolAt _) (e _ _)⟩
end

variable (p0 p1 p2 : FVec Ideal S64x256x256 .f32) (len : IVec S64 32)

/-- Masking the parts and putting them side by side is masking them side by side. -/
theorem cat_seqOf : Ref.cat (seqOf p0 len) (seqOf p1 len) (seqOf p2 len) = Ref.seqR (Ref.cat p0 p1 p2) len := by
  funext y
  idx_vars y
  rw [Ref.cat_apply, Ref.seqR_apply]
  simp only [Ref.cat_apply]
  split_ifs <;> rfl

/-- Pooling the parts and putting them side by side is pooling them side by side. -/
theorem cat2_poolOf : cat2 (shapeCast S64x256 (poolOf p0 len) shapeCasts_S64x1x256_S64x256) (shapeCast S64x256 (poolOf p1 len) shapeCasts_S64x1x256_S64x256)
      (shapeCast S64x256 (poolOf p2 len) shapeCasts_S64x1x256_S64x256)
    = Ref.poolR (Ref.seqR (Ref.cat p0 p1 p2) len) len := by
  funext y
  idx_vars y
  rw [Ref.poolR_apply]
  simp only [Ref.cat_apply]
  pointwise [cat2]
  split_ifs <;> rfl

end Cert.Proof.Ker
end
end
-- ==== Proof.Whole.lean ====
/- The kernel's two results, as the reference's functions of its arguments. -/
module

public import proofs.«01_k».proof.Proof.Arr0
public import proofs.«01_k».proof.Proof.Arr1
public import proofs.«01_k».proof.Proof.Arr2
public import proofs.«01_k».proof.Proof.Parts

@[expose] public section

set_option maxRecDepth 16384

noncomputable section

namespace Cert.Proof.Ker

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The arrays the joint features come from are real. -/
structure Joints : Prop where
  x0 : Real (s := S64x256x33x3) (m ((c : Thread nD τ).loc main_arg0))
  x1 : Real (s := S64x256x21x3) (m ((c : Thread nD τ).loc main_arg1))
  x2 : Real (s := S64x256x21x3) (m ((c : Thread nD τ).loc main_arg2))
  a0 : Real (s := S33x33) (m ((c : Thread nD τ).loc main_arg4))
  w0 : Real (s := S3x256) (m ((c : Thread nD τ).loc main_arg5))
  a1 : Real (s := S21x21) (m ((c : Thread nD τ).loc main_arg8))
  w1 : Real (s := S3x256) (m ((c : Thread nD τ).loc main_arg9))
  a2 : Real (s := S21x21) (m ((c : Thread nD τ).loc main_arg12))
  w2 : Real (s := S3x256) (m ((c : Thread nD τ).loc main_arg13))

/-- The reference's first part, of the launched arrays. -/
def p0 : FVec Ideal S64x256x256 .f32 := Ref.part33 (m ((c : Thread nD τ).loc main_arg0)) (m ((c : Thread nD τ).loc main_arg4))
  (m ((c : Thread nD τ).loc main_arg5)) (m ((c : Thread nD τ).loc main_arg6)) (m ((c : Thread nD τ).loc main_arg7))
/-- The reference's second part, of the launched arrays. -/
def p1 : FVec Ideal S64x256x256 .f32 := Ref.part21 (m ((c : Thread nD τ).loc main_arg1)) (m ((c : Thread nD τ).loc main_arg8))
  (m ((c : Thread nD τ).loc main_arg9)) (m ((c : Thread nD τ).loc main_arg10)) (m ((c : Thread nD τ).loc main_arg11))
/-- The reference's third part, of the launched arrays. -/
def p2 : FVec Ideal S64x256x256 .f32 := Ref.part21 (m ((c : Thread nD τ).loc main_arg2)) (m ((c : Thread nD τ).loc main_arg12))
  (m ((c : Thread nD τ).loc main_arg13)) (m ((c : Thread nD τ).loc main_arg14)) (m ((c : Thread nD τ).loc main_arg15))
/-- The clips' lengths. -/
def len : IVec S64 32 := m ((c : Thread nD τ).loc main_arg3)

variable {m c}

/-- What the first region leaves. -/
theorem left0 (h : Joints m c) : W4 m ρ c (Proc.devRef .tc main_v16_0) = seqOf (p0 m c) (len m c)
    ∧ W4 m ρ c (Proc.devRef .tc main_v16_1) = poolOf (p0 m c) (len m c) := by
  have e := region33 _ _ h.x0 h.a0 h.w0 (W3_args m ρ c main_arg5 (by decide)) (W3_args m ρ c main_arg3 (by decide)) (pre0 (W0 m ρ c))
  exact ⟨(W4_arr m ρ c 7).trans ((arr0_7 (V3 m ρ) c).trans e.1), (W4_arr m ρ c 8).trans ((arr0_8 (V3 m ρ) c).trans e.2)⟩

/-- What the second region leaves, and the first region's pooled features as the host reshapes them. -/
theorem left1 (h : Joints m c) : W8 m ρ c (Proc.devRef .tc main_v34_0) = seqOf (p1 m c) (len m c)
    ∧ W8 m ρ c (Proc.devRef .tc main_v34_1) = poolOf (p1 m c) (len m c)
    ∧ W7 m ρ c (Proc.devRef .tc main_v17) = shapeCast S64x256 (poolOf (p0 m c) (len m c)) shapeCasts_S64x1x256_S64x256 := by
  obtain ⟨h1, h2, h3, h4, h5, h6⟩ := pre1 (W4 m ρ c)
  rw [W4_args m ρ c main_arg1 (by decide)] at h1
  rw [W4_args m ρ c main_arg8 (by decide)] at h2 h3
  rw [W4_args m ρ c main_arg10 (by decide)] at h4
  rw [W4_args m ρ c main_arg11 (by decide)] at h5
  rw [(left0 ρ h).2] at h6
  have e := region21 _ _ h.x1 h.a1 h.w1 (W7_args m ρ c main_arg9 (by decide)) (W7_args m ρ c main_arg3 (by decide)) ⟨h1, h2, h3, h4, h5⟩
  exact ⟨(W8_arr m ρ c 7).trans ((arr1_7 (V7 m ρ) c).trans e.1), (W8_arr m ρ c 8).trans ((arr1_8 (V7 m ρ) c).trans e.2), h6⟩

/-- What the third region leaves, and the second region's pooled features as the host reshapes them. -/
theorem left2 (h : Joints m c) : W12 m ρ c (Proc.devRef .tc main_v52_0) = seqOf (p2 m c) (len m c)
    ∧ W12 m ρ c (Proc.devRef .tc main_v52_1) = poolOf (p2 m c) (len m c)
    ∧ W11 m ρ c (Proc.devRef .tc main_v35) = shapeCast S64x256 (poolOf (p1 m c) (len m c)) shapeCasts_S64x1x256_S64x256 := by
  obtain ⟨h1, h2, h3, h4, h5, h6⟩ := pre2 (W8 m ρ c)
  rw [W8_args m ρ c main_arg2 (by decide)] at h1
  rw [W8_args m ρ c main_arg12 (by decide)] at h2 h3
  rw [W8_args m ρ c main_arg14 (by decide)] at h4
  rw [W8_args m ρ c main_arg15 (by decide)] at h5
  rw [(left1 ρ h).2.1] at h6
  have e := region21 _ _ h.x2 h.a2 h.w2 (W11_args m ρ c main_arg13 (by decide)) (W11_args m ρ c main_arg3 (by decide)) ⟨h1, h2, h3, h4, h5⟩
  exact ⟨(W12_arr m ρ c 7).trans ((arr2_7 (V11 m ρ) c).trans e.1), (W12_arr m ρ c 8).trans ((arr2_8 (V11 m ρ) c).trans e.2), h6⟩

/-- From the second region's exit on, the host and the third region leave a buffer they do not write as it was. -/
theorem keep2 (r : Ref sig .tc) (h0 : r ∉ hostOps2_W) (h1 : r ∉ hostOps2_1_W) (h2 : r ∉ hostOps2_2_W)
    (h3 : ∀ w, Pipeline.arrRef spec2 w ≠ r) : W12 m ρ c (Proc.devRef .tc r) = W8 m ρ c (Proc.devRef .tc r) :=
  (W12_of_ne m ρ c r h3).trans ((W11_of m ρ c r h2).trans ((W10_of m ρ c r h1).trans (W9_of m ρ c r h0)))

/-- From the first region's exit to the second's, the sequence of the first part stays as it was. -/
theorem keep1 : W8 m ρ c (Proc.devRef .tc main_v16_0) = W4 m ρ c (Proc.devRef .tc main_v16_0) :=
  (W8_of_ne m ρ c _ (by decide)).trans ((W7_of m ρ c _ (by decide)).trans ((W6_of m ρ c _ (by decide)).trans (W5_of m ρ c _ (by decide))))

/-- The kernel's two results are the reference's functions of the launched arrays. -/
theorem results (h : Joints m c) :
    W13 m ρ c (Proc.devRef .tc main_v54) = Ref.seqR (Ref.cat (p0 m c) (p1 m c) (p2 m c)) (len m c)
    ∧ W13 m ρ c (Proc.devRef .tc main_v55) = Ref.poolR (Ref.seqR (Ref.cat (p0 m c) (p1 m c) (p2 m c)) (len m c)) (len m c) := by
  obtain ⟨e1, e2⟩ := post (W12 m ρ c)
  constructor
  · refine e1.trans ?_
    rw [(left2 ρ h).1, keep2 ρ main_v34_0 (by decide) (by decide) (by decide) (by decide), (left1 ρ h).1,
      keep2 ρ main_v16_0 (by decide) (by decide) (by decide) (by decide), keep1, (left0 ρ h).1]
    exact cat_seqOf _ _ _ _
  · refine e2.trans ?_
    rw [(left2 ρ h).2.1, W12_of_ne m ρ c main_v35 (by decide), (left2 ρ h).2.2,
      keep2 ρ main_v17 (by decide) (by decide) (by decide) (by decide), W8_of_ne m ρ c main_v17 (by decide), (left1 ρ h).2.2]
    exact cat2_poolOf _ _ _ _

end Cert.Proof.Ker
end
end
-- ==== Proof.Finite.lean ====
/- What the precondition says: the poses, the adjacencies and the first weights are real. -/
module

public import proofs.«01_k».proof.Defs
public import proofs.«01_k».proof.Proof.Whole
public import Idealize.ShloMosaic.Lib.ReduceAll

@[expose] public section

set_option maxRecDepth 16384

noncomputable section

namespace Cert.Proof

open Idealize.ShloMosaic Idealize.ShloMosaic.TcCoe Idealize.SL.Sem

/-- The side conditions of the precondition's operations. -/
instance preFacts : Cert.Pre_finite_joints.Facts where
  bcast_S_S64x256x33x3 := by decide
  reducesTo_S64x256x33x3_S_d0_1_2_3 := by decide
  h_S_ := by decide
  bcast_S_S33x33 := by decide
  reducesTo_S33x33_S_d0_1 := by decide
  bcast_S_S3x256 := by decide
  reducesTo_S3x256_S_d0_1 := by decide
  bcast_S_S64x256x21x3 := by decide
  reducesTo_S64x256x21x3_S_d0_1_2_3 := by decide
  bcast_S_S21x21 := by decide
  reducesTo_S21x21_S_d0_1 := by decide

namespace Ker

/-- An extended real whose absolute value is below infinity is a real number. -/
theorem real_of_abs_lt (x : EReal) (h : FloatOps.cmpf (F := Ideal) (φ := .f32) .olt (FloatOps.hostAbsf (F := Ideal) (φ := .f32) x)
    (FloatOps.ofBits (F := Ideal) .f32 0x7F800000#32) = 1#1) : Fin' x := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  induction x using EReal.rec with
  | bot => simp at h'
  | top => simp at h'
  | coe r => exact ⟨r, rfl⟩

/-- An array whose test for finite entries comes out true has real entries. -/
theorem real_of_all {s : Shape} {dims : List (Fin s.rank)} (x : FVec Ideal s .f32)
    (hb : Cert.Pre_finite_joints.S_.BroadcastsInDim s (![] : Fin 0 → Fin s.rank)) (hr : s.ReducesTo dims Cert.Pre_finite_joints.S_)
    (hu : 0 < Cert.Pre_finite_joints.S_.numel) (j : Cert.Pre_finite_joints.S_.Idx)
    (e : Host.reduce IntOp.andi (cmpf .olt (Host.absf x) (broadcastInDim s ![] hb (constant Cert.Pre_finite_joints.S_ .f32 0x7F800000#32)))
      (constantI Cert.Pre_finite_joints.S_ 1 1#1) hr hu j = 1#1) : Real x := fun i =>
  haveI : Subsingleton Cert.Pre_finite_joints.S_.Idx := ⟨fun _ _ => funext fun k => k.elim0⟩
  real_of_abs_lt _ (Host.reduce_andi_all _ _ hr hu j e i)

/-- The precondition says that the nine arrays are real. -/
theorem joints_of_pre (m : (ℓ : Loc Cert.KernelIdeal.nD Cert.KernelIdeal.τ Cert.KernelIdeal.sig) → Buf (Elt Ideal) ℓ)
    (h : Pre_KernelIdeal_finite_joints m) (c : Dev Cert.KernelIdeal.nD) : Joints m c := by
  have e := congrFun (h c) (Shape.Idx.first (by decide))
  dsimp only [Cert.Pre_finite_joints.fn, Cert.Pre_finite_joints.fn_part1, Cert.Pre_finite_joints.fn_part2] at e
  obtain ⟨e, w2⟩ := IntOp.andi_eq_one.1 e
  obtain ⟨e, a2⟩ := IntOp.andi_eq_one.1 e
  obtain ⟨e, x2⟩ := IntOp.andi_eq_one.1 e
  obtain ⟨e, w1⟩ := IntOp.andi_eq_one.1 e
  obtain ⟨e, a1⟩ := IntOp.andi_eq_one.1 e
  obtain ⟨e, x1⟩ := IntOp.andi_eq_one.1 e
  obtain ⟨e, w0⟩ := IntOp.andi_eq_one.1 e
  obtain ⟨x0, a0⟩ := IntOp.andi_eq_one.1 e
  exact ⟨real_of_all _ _ _ _ _ x0, real_of_all _ _ _ _ _ x1, real_of_all _ _ _ _ _ x2, real_of_all _ _ _ _ _ a0, real_of_all _ _ _ _ _ w0,
    real_of_all _ _ _ _ _ a1, real_of_all _ _ _ _ _ w1, real_of_all _ _ _ _ _ a2, real_of_all _ _ _ _ _ w2⟩

end Ker
end Cert.Proof
end
end
-- ==== Proof.Run.lean ====
/- The run of the whole idealized kernel and what its results hold. -/
module

public import proofs.«01_k».proof.Proof.Finite

@[expose] public section

set_option maxRecDepth 16384

noncomputable section

namespace Cert.Proof.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-- The resources the kernel's run is reasoned about with. -/
abbrev Res := MT nD τ sig Unit (Elt Ideal) ℕ (UR sig nD τ) ℕ

set_option backward.isDefEq.respectTransparency.types false in
/-- The kernel runs to the end, and every buffer of the host then holds what the chain of segments leaves in it. -/
theorem whole (m : (ℓ : Loc nD τ sig) → Buf (Elt Ideal) ℓ) (ρ : Dev nD → PrngReg) :
    θ_run defs (onTc (τ := τ) (main (F := Ideal))) ⟨m, fun _ => 0, ρ⟩ (fun r => ∀ c : Dev nD, ∀ b ∈ Pipeline.ucRefs τ sig,
      r.2.mem (((c : Thread nD τ)).1, b) = W13 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun _ h _ => h)

end Cert.Proof.Ker
end
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import Idealize.ShloMosaic.Lib.Quiescent

@[expose] public section

set_option maxRecDepth 16384

noncomputable section

namespace Cert.Proof

open Idealize.ShloMosaic Idealize.ShloMosaic.TcCoe Idealize.SL.Sem

/-- The reference runs to the end, leaves its arguments as they were, and every counter at zero. -/
theorem frame_reference : quiescent_ReferenceIdeal := fun m g _ =>
  (θ_run Cert.ReferenceIdeal.defs _ _).mono
    (fun r h => ⟨fun c => (h c).2.2, sem_eq_zero_of_no_sems (by decide) r.2⟩) (Cert.ReferenceIdeal.Value.run m g)

open Cert.KernelIdeal Cert.KernelIdeal.Gen in
/-- The idealized kernel and the reference end with the same results. -/
theorem algebraic : algebraic_KernelIdeal_ReferenceIdeal_pre_finite_joints := by
  intro m g m' g' hpre hargs
  have hj := Ker.joints_of_pre m hpre
  refine ⟨fun c => Ref.poolR (Ref.seqR (Ref.cat (Ker.p0 m c) (Ker.p1 m c) (Ker.p2 m c)) (Ker.len m c)) (Ker.len m c),
    fun c => Ref.seqR (Ref.cat (Ker.p0 m c) (Ker.p1 m c) (Ker.p2 m c)) (Ker.len m c), ?_, ?_⟩
  · refine (θ_run Cert.KernelIdeal.defs _ _).mono (fun r h c => ?_) (Ker.whole m g)
    exact ⟨(h c _ (mem_uc main_v55 (by decide))).trans (Ker.results g (hj c)).2,
        (h c _ (mem_uc main_v54 (by decide))).trans (Ker.results g (hj c)).1,
        (h c _ (mem_uc main_arg0 (by decide))).trans (W13_main_arg0 m g c),
        (h c _ (mem_uc main_arg1 (by decide))).trans (W13_main_arg1 m g c),
        (h c _ (mem_uc main_arg2 (by decide))).trans (W13_main_arg2 m g c),
        (h c _ (mem_uc main_arg3 (by decide))).trans (W13_main_arg3 m g c),
        (h c _ (mem_uc main_arg4 (by decide))).trans (W13_main_arg4 m g c),
        (h c _ (mem_uc main_arg5 (by decide))).trans (W13_main_arg5 m g c),
        (h c _ (mem_uc main_arg6 (by decide))).trans (W13_main_arg6 m g c),
        (h c _ (mem_uc main_arg7 (by decide))).trans (W13_main_arg7 m g c),
        (h c _ (mem_uc main_arg8 (by decide))).trans (W13_main_arg8 m g c),
        (h c _ (mem_uc main_arg9 (by decide))).trans (W13_main_arg9 m g c),
        (h c _ (mem_uc main_arg10 (by decide))).trans (W13_main_arg10 m g c),
        (h c _ (mem_uc main_arg11 (by decide))).trans (W13_main_arg11 m g c),
        (h c _ (mem_uc main_arg12 (by decide))).trans (W13_main_arg12 m g c),
        (h c _ (mem_uc main_arg13 (by decide))).trans (W13_main_arg13 m g c),
        (h c _ (mem_uc main_arg14 (by decide))).trans (W13_main_arg14 m g c),
        (h c _ (mem_uc main_arg15 (by decide))).trans (W13_main_arg15 m g c)⟩
  · refine (θ_run Cert.ReferenceIdeal.defs _ _).mono (fun r h c => ?_) (Cert.ReferenceIdeal.Value.run m' g')
    obtain ⟨h0, h1, hr⟩ := h c
    obtain ⟨e0, e1, e2, e3, e4, e5, e6, e7, e8, e9, e10, e11, e12, e13, e14, e15⟩ := hargs c
    have e : Cert.ReferenceIdeal.Value.res_main_v207 (StableHlo.launchContents m' c) = Ref.cat (Ker.p0 m c) (Ker.p1 m c) (Ker.p2 m c) := by
      refine (Ref.res_parts _).trans ?_
      unfold Ker.p0 Ker.p1 Ker.p2
      rw [← e0, ← e1, ← e2, ← e4, ← e5, ← e6, ← e7, ← e8, ← e9, ← e10, ← e11, ← e12, ← e13, ← e14, ← e15]
    refine ⟨h0.trans ?_, h1.trans ?_, hr⟩
    · rw [e]
      exact congrArg (fun l => Ref.poolR (Ref.seqR (Ref.cat (Ker.p0 m c) (Ker.p1 m c) (Ker.p2 m c)) l) l) e3
    · rw [e]
      exact congrArg (Ref.seqR (Ref.cat (Ker.p0 m c) (Ker.p1 m c) (Ker.p2 m c))) e3

/-- Everything claimed. -/
theorem claim : Cert.Claim :=
  ⟨Cert.Kernel.Gen.facts, Cert.KernelIdeal.Gen.facts, Cert.ReferenceIdeal.Gen.facts, preFacts,
    fun m g _ => Cert.Kernel.Gen.frame m g,
    fun m g _ => Cert.KernelIdeal.Gen.frame m g,
    fun m g _ => Cert.KernelIdeal.Gen.frame m g,
    frame_reference,
    fun m g _ => frame_reference m g trivial,
    ⟨IdealRules.named_const.statement _ "inv33" .f32 0x3CF83E10#32 _ rfl, IdealRules.named_const.statement _ "inv21" .f32 0x3D430C31#32 _ rfl⟩,
    algebraic⟩

end Cert.Proof

end
